-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid_offsets [hPre_valid_offsets : Cert.Pre_valid_offsets.Facts] (m : (ℓ : Loc Cert.KernelIdeal.nD Cert.KernelIdeal.τ Cert.KernelIdeal.sig) → Buf (Elt Ideal) ℓ) : Prop :=
  ∀ c : Dev Cert.KernelIdeal.nD,
    (Cert.Pre_valid_offsets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_offsets [hPre_valid_offsets : Cert.Pre_valid_offsets.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_offsets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_valid_offsets [hKernelIdeal : Cert.KernelIdeal.Facts] [hPre_valid_offsets : Cert.Pre_valid_offsets.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid_offsets m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_valid_offsets [hReferenceIdeal : Cert.ReferenceIdeal.Facts] [hPre_valid_offsets : Cert.Pre_valid_offsets.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_offsets m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_valid_offsets [hKernelIdeal : Cert.KernelIdeal.Facts] [hReferenceIdeal : Cert.ReferenceIdeal.Facts] [hPre_valid_offsets : Cert.Pre_valid_offsets.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid_offsets m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_valid_offsets : Cert.Pre_valid_offsets.Facts),
    quiescent_Kernel (hKernel := hKernel)
    ∧ quiescent_KernelIdeal (hKernelIdeal := hKernelIdeal)
    ∧ quiescent_KernelIdeal_pre_valid_offsets (hKernelIdeal := hKernelIdeal) (hPre_valid_offsets := hPre_valid_offsets)
    ∧ quiescent_ReferenceIdeal (hReferenceIdeal := hReferenceIdeal)
    ∧ quiescent_ReferenceIdeal_pre_valid_offsets (hReferenceIdeal := hReferenceIdeal) (hPre_valid_offsets := hPre_valid_offsets)
    ∧ preserves_Kernel_KernelIdeal
    ∧ algebraic_KernelIdeal_ReferenceIdeal_pre_valid_offsets (hKernelIdeal := hKernelIdeal) (hReferenceIdeal := hReferenceIdeal) (hPre_valid_offsets := hPre_valid_offsets)
-- ==== Pre_valid_offsets.lean ====
abbrev S16384 : Shape := ⟨1, ![16384]⟩
abbrev S17 : Shape := ⟨1, ![17]⟩
abbrev S1 : Shape := ⟨1, ![1]⟩
abbrev S_ : Shape := ⟨0, ![]⟩
abbrev S16 : Shape := ⟨1, ![16]⟩

class Facts : Prop where
  slices_S17_S1_0 : S17.Slices ![0] S1
  bcast_S_S1 : S_.BroadcastsInDim S1 (![] : Fin 0 → Fin S1.rank)
  slices_S17_S16_0 : S17.Slices ![0] S16
  slices_S17_S16_1 : S17.Slices ![1] S16
  concatenates_S1_S16_S17_d0 : Shape.Concatenates [S1, S16] S17 0

variable [Facts]

def fn {F : FTy → Type} [FloatOps F] (main_arg0 : IVec S16384 32) (main_arg1 : IVec S17 32) (main_arg2 : FVec F S16384 .f32) : IVec S17 1 :=
  let main_v0 : IVec S1 32 := (extractStridedSlice S1 ![0] · slices_S17_S1_0) main_arg1
  let main_c : IVec S_ 32 := constantI S_ 32 0#32
  let main_v1 : IVec S1 32 := broadcastInDim S1 ![] bcast_S_S1 main_c
  let main_v2 : IVec S1 1 := cmpi .eq main_v0 main_v1
  let main_v3 : IVec S16 32 := (extractStridedSlice S16 ![0] · slices_S17_S16_0) main_arg1
  let main_v4 : IVec S16 32 := (extractStridedSlice S16 ![1] · slices_S17_S16_1) main_arg1
  let main_v5 : IVec S16 1 := cmpi .sle main_v3 main_v4
  let main_v6 : IVec S17 1 := (fun a b => concatenate S17 0 [⟨S1, a⟩, ⟨S16, b⟩] concatenates_S1_S16_S17_d0) main_v2 main_v5
  main_v6
-- ==== Kernel.lean ====
abbrev S16384 : Shape := ⟨1, ![16384]⟩
abbrev S17 : Shape := ⟨1, ![17]⟩
abbrev S16 : Shape := ⟨1, ![16]⟩
abbrev S1024 : Shape := ⟨1, ![1024]⟩
abbrev S_ : Shape := ⟨0, ![]⟩
abbrev S1 : Shape := ⟨1, ![1]⟩
abbrev S128 : Shape := ⟨1, ![128]⟩

abbrev nBuf : Table → Nat
  | .hbm => 6
  | .local .scVector .vmem => 4
  | _ => 0

abbrev bufTy : (tb : Table) → Fin (nBuf tb) → BufTy
  | .hbm, ⟨0, _⟩ => ⟨S16384, .i32⟩
  | .hbm, ⟨1, _⟩ => ⟨S17, .i32⟩
  | .hbm, ⟨2, _⟩ => ⟨S16384, .f32⟩
  | .hbm, ⟨3, _⟩ => ⟨S16384, .i32⟩
  | .hbm, ⟨4, _⟩ => ⟨S17, .i32⟩
  | .hbm, ⟨5, _⟩ => ⟨S16384, .f32⟩
  | .local .scVector .vmem, ⟨0, _⟩ => ⟨S16, .i32⟩
  | .local .scVector .vmem, ⟨1, _⟩ => ⟨S16384, .f32⟩
  | .local .scVector .vmem, ⟨2, _⟩ => ⟨S1024, .i32⟩
  | .local .scVector .vmem, ⟨3, _⟩ => ⟨S1024, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_0_scv : Ref sig .scVector := ⟨.hbm, 3, rfl⟩
abbrev main_v0_1_scv : Ref sig .scVector := ⟨.hbm, 4, rfl⟩
abbrev main_v0_2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
@[reducible] def k0_t1_loop : Scf.Loop 32 :=
  let c0_i32_1 : BitVec 32 := 0#32
  let c64_i32 : BitVec 32 := 64#32
  let v7 : BitVec 32 := Scalar.addi c0_i32_1 c64_i32
  let c1_i32_2 : BitVec 32 := 1#32
  ⟨c0_i32_1, v7, c1_i32_2⟩
def k0_off2 (k0_t1 : Fin k0_t1_loop.trips) : Fin 1 → Nat :=
  let c0_i32_1 : BitVec 32 := 0#32
  let c1_i32_2 : BitVec 32 := 1#32
  let arg16 : BitVec 32 := Scf.iv c0_i32_1 c1_i32_2 k0_t1
  let c16_i32 : BitVec 32 := 16#32
  let v297 : BitVec 32 := Scalar.muli arg16 c16_i32
  let v298 : Index := Scalar.indexCast v297
  ![v298.toNat]

def k0_chk1 (v27 : IVec S16 32) : Prop :=
  (∀ a x, ((![v27] : Fin 1 → IVec S16 32) a x).toNat < S1024.size a)
theorem k0_idx1_inb : ∀ (v27 : IVec S16 32) (k0_hw1 : k0_chk1 v27), ∀ a x, ((![v27] : Fin 1 → IVec S16 32) a x).toNat < S1024.size a := fun v27 k0_hw1 => k0_hw1
@[reducible] def k0_t2_loop : Scf.Loop 32 :=
  let c0_i32_7 : BitVec 32 := 0#32
  let c64_i32_8 : BitVec 32 := 64#32
  let v29 : BitVec 32 := Scalar.addi c0_i32_7 c64_i32_8
  let c1_i32_9 : BitVec 32 := 1#32
  ⟨c0_i32_7, v29, c1_i32_9⟩
def k0_off3 (k0_t2 : Fin k0_t2_loop.trips) : Fin 1 → Nat :=
  let c0_i32_7 : BitVec 32 := 0#32
  let c1_i32_9 : BitVec 32 := 1#32
  let arg16 : BitVec 32 := Scf.iv c0_i32_7 c1_i32_9 k0_t2
  let c16_i32 : BitVec 32 := 16#32
  let v297 : BitVec 32 := Scalar.muli arg16 c16_i32
  let v298 : Index := Scalar.indexCast v297
  ![v298.toNat]

def k0_chk2 (v31 : IVec S16 32) : Prop :=
  (∀ a x, ((![v31] : Fin 1 → IVec S16 32) a x).toNat < S16384.size a)
theorem k0_idx2_inb : ∀ (v31 : IVec S16 32) (k0_hw2 : k0_chk2 v31), ∀ a x, ((![v31] : Fin 1 → IVec S16 32) a x).toNat < S16384.size a := fun v31 k0_hw2 => k0_hw2

def k0_chk3 (v34 : IVec S16 32) : Prop :=
  (∀ a x, ((![v34] : Fin 1 → IVec S16 32) a x).toNat < S16384.size a)
theorem k0_idx3_inb : ∀ (v34 : IVec S16 32) (k0_hw3 : k0_chk3 v34), ∀ a x, ((![v34] : Fin 1 → IVec S16 32) a x).toNat < S16384.size a := fun v34 k0_hw3 => k0_hw3

def k0_chk4 (v37 : IVec S16 32) : Prop :=
  (∀ a x, ((![v37] : Fin 1 → IVec S16 32) a x).toNat < S16384.size a)
theorem k0_idx4_inb : ∀ (v37 : IVec S16 32) (k0_hw4 : k0_chk4 v37), ∀ a x, ((![v37] : Fin 1 → IVec S16 32) a x).toNat < S16384.size a := fun v37 k0_hw4 => k0_hw4

def k0_chk5 (v40 : IVec S16 32) : Prop :=
  (∀ a x, ((![v40] : Fin 1 → IVec S16 32) a x).toNat < S16384.size a)
theorem k0_idx5_inb : ∀ (v40 : IVec S16 32) (k0_hw5 : k0_chk5 v40), ∀ a x, ((![v40] : Fin 1 → IVec S16 32) a x).toNat < S16384.size a := fun v40 k0_hw5 => k0_hw5

def k0_chk6 (v43 : IVec S16 32) : Prop :=
  (∀ a x, ((![v43] : Fin 1 → IVec S16 32) a x).toNat < S16384.size a)
theorem k0_idx6_inb : ∀ (v43 : IVec S16 32) (k0_hw6 : k0_chk6 v43), ∀ a x, ((![v43] : Fin 1 → IVec S16 32) a x).toNat < S16384.size a := fun v43 k0_hw6 => k0_hw6

def k0_chk7 (v46 : IVec S16 32) : Prop :=
  (∀ a x, ((![v46] : Fin 1 → IVec S16 32) a x).toNat < S16384.size a)
theorem k0_idx7_inb : ∀ (v46 : IVec S16 32) (k0_hw7 : k0_chk7 v46), ∀ a x, ((![v46] : Fin 1 → IVec S16 32) a x).toNat < S16384.size a := fun v46 k0_hw7 => k0_hw7

def k0_chk8 (v49 : IVec S16 32) : Prop :=
  (∀ a x, ((![v49] : Fin 1 → IVec S16 32) a x).toNat < S16384.size a)
theorem k0_idx8_inb : ∀ (v49 : IVec S16 32) (k0_hw8 : k0_chk8 v49), ∀ a x, ((![v49] : Fin 1 → IVec S16 32) a x).toNat < S16384.size a := fun v49 k0_hw8 => k0_hw8

def k0_chk9 (v52 : IVec S16 32) : Prop :=
  (∀ a x, ((![v52] : Fin 1 → IVec S16 32) a x).toNat < S16384.size a)
theorem k0_idx9_inb : ∀ (v52 : IVec S16 32) (k0_hw9 : k0_chk9 v52), ∀ a x, ((![v52] : Fin 1 → IVec S16 32) a x).toNat < S16384.size a := fun v52 k0_hw9 => k0_hw9
def k0_off4 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_20 : BitVec 32 := 0#32
  let v55 : BitVec 32 := Scalar.addi v2 c0_i32_20
  ![v55.toNat]

def k0_chk10 (v60 : IVec S16 32) : Prop :=
  (∀ a x, ((![v60] : Fin 1 → IVec S16 32) a x).toNat < S16384.size a)
theorem k0_idx10_inb : ∀ (v60 : IVec S16 32) (k0_hw10 : k0_chk10 v60), ∀ a x, ((![v60] : Fin 1 → IVec S16 32) a x).toNat < S16384.size a := fun v60 k0_hw10 => k0_hw10

def k0_chk11 (v63 : IVec S16 32) : Prop :=
  (∀ a x, ((![v63] : Fin 1 → IVec S16 32) a x).toNat < S16384.size a)
theorem k0_idx11_inb : ∀ (v63 : IVec S16 32) (k0_hw11 : k0_chk11 v63), ∀ a x, ((![v63] : Fin 1 → IVec S16 32) a x).toNat < S16384.size a := fun v63 k0_hw11 => k0_hw11

def k0_chk12 (v66 : IVec S16 32) : Prop :=
  (∀ a x, ((![v66] : Fin 1 → IVec S16 32) a x).toNat < S16384.size a)
theorem k0_idx12_inb : ∀ (v66 : IVec S16 32) (k0_hw12 : k0_chk12 v66), ∀ a x, ((![v66] : Fin 1 → IVec S16 32) a x).toNat < S16384.size a := fun v66 k0_hw12 => k0_hw12

def k0_chk13 (v69 : IVec S16 32) : Prop :=
  (∀ a x, ((![v69] : Fin 1 → IVec S16 32) a x).toNat < S16384.size a)
theorem k0_idx13_inb : ∀ (v69 : IVec S16 32) (k0_hw13 : k0_chk13 v69), ∀ a x, ((![v69] : Fin 1 → IVec S16 32) a x).toNat < S16384.size a := fun v69 k0_hw13 => k0_hw13

def k0_chk14 (v72 : IVec S16 32) : Prop :=
  (∀ a x, ((![v72] : Fin 1 → IVec S16 32) a x).toNat < S16384.size a)
theorem k0_idx14_inb : ∀ (v72 : IVec S16 32) (k0_hw14 : k0_chk14 v72), ∀ a x, ((![v72] : Fin 1 → IVec S16 32) a x).toNat < S16384.size a := fun v72 k0_hw14 => k0_hw14

def k0_chk15 (v75 : IVec S16 32) : Prop :=
  (∀ a x, ((![v75] : Fin 1 → IVec S16 32) a x).toNat < S16384.size a)
theorem k0_idx15_inb : ∀ (v75 : IVec S16 32) (k0_hw15 : k0_chk15 v75), ∀ a x, ((![v75] : Fin 1 → IVec S16 32) a x).toNat < S16384.size a := fun v75 k0_hw15 => k0_hw15

def k0_chk16 (v78 : IVec S16 32) : Prop :=
  (∀ a x, ((![v78] : Fin 1 → IVec S16 32) a x).toNat < S16384.size a)
theorem k0_idx16_inb : ∀ (v78 : IVec S16 32) (k0_hw16 : k0_chk16 v78), ∀ a x, ((![v78] : Fin 1 → IVec S16 32) a x).toNat < S16384.size a := fun v78 k0_hw16 => k0_hw16

def k0_chk17 (v81 : IVec S16 32) : Prop :=
  (∀ a x, ((![v81] : Fin 1 → IVec S16 32) a x).toNat < S16384.size a)
theorem k0_idx17_inb : ∀ (v81 : IVec S16 32) (k0_hw17 : k0_chk17 v81), ∀ a x, ((![v81] : Fin 1 → IVec S16 32) a x).toNat < S16384.size a := fun v81 k0_hw17 => k0_hw17
def k0_off5 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let c128_i32 : BitVec 32 := 128#32
  let v84 : BitVec 32 := Scalar.addi v2 c128_i32
  ![v84.toNat]

def k0_chk18 (v89 : IVec S16 32) : Prop :=
  (∀ a x, ((![v89] : Fin 1 → IVec S16 32) a x).toNat < S16384.size a)
theorem k0_idx18_inb : ∀ (v89 : IVec S16 32) (k0_hw18 : k0_chk18 v89), ∀ a x, ((![v89] : Fin 1 → IVec S16 32) a x).toNat < S16384.size a := fun v89 k0_hw18 => k0_hw18

def k0_chk19 (v92 : IVec S16 32) : Prop :=
  (∀ a x, ((![v92] : Fin 1 → IVec S16 32) a x).toNat < S16384.size a)
theorem k0_idx19_inb : ∀ (v92 : IVec S16 32) (k0_hw19 : k0_chk19 v92), ∀ a x, ((![v92] : Fin 1 → IVec S16 32) a x).toNat < S16384.size a := fun v92 k0_hw19 => k0_hw19

def k0_chk20 (v95 : IVec S16 32) : Prop :=
  (∀ a x, ((![v95] : Fin 1 → IVec S16 32) a x).toNat < S16384.size a)
theorem k0_idx20_inb : ∀ (v95 : IVec S16 32) (k0_hw20 : k0_chk20 v95), ∀ a x, ((![v95] : Fin 1 → IVec S16 32) a x).toNat < S16384.size a := fun v95 k0_hw20 => k0_hw20

def k0_chk21 (v98 : IVec S16 32) : Prop :=
  (∀ a x, ((![v98] : Fin 1 → IVec S16 32) a x).toNat < S16384.size a)
theorem k0_idx21_inb : ∀ (v98 : IVec S16 32) (k0_hw21 : k0_chk21 v98), ∀ a x, ((![v98] : Fin 1 → IVec S16 32) a x).toNat < S16384.size a := fun v98 k0_hw21 => k0_hw21

def k0_chk22 (v101 : IVec S16 32) : Prop :=
  (∀ a x, ((![v101] : Fin 1 → IVec S16 32) a x).toNat < S16384.size a)
theorem k0_idx22_inb : ∀ (v101 : IVec S16 32) (k0_hw22 : k0_chk22 v101), ∀ a x, ((![v101] : Fin 1 → IVec S16 32) a x).toNat < S16384.size a := fun v101 k0_hw22 => k0_hw22

def k0_chk23 (v104 : IVec S16 32) : Prop :=
  (∀ a x, ((![v104] : Fin 1 → IVec S16 32) a x).toNat < S16384.size a)
theorem k0_idx23_inb : ∀ (v104 : IVec S16 32) (k0_hw23 : k0_chk23 v104), ∀ a x, ((![v104] : Fin 1 → IVec S16 32) a x).toNat < S16384.size a := fun v104 k0_hw23 => k0_hw23

def k0_chk24 (v107 : IVec S16 32) : Prop :=
  (∀ a x, ((![v107] : Fin 1 → IVec S16 32) a x).toNat < S16384.size a)
theorem k0_idx24_inb : ∀ (v107 : IVec S16 32) (k0_hw24 : k0_chk24 v107), ∀ a x, ((![v107] : Fin 1 → IVec S16 32) a x).toNat < S16384.size a := fun v107 k0_hw24 => k0_hw24

def k0_chk25 (v110 : IVec S16 32) : Prop :=
  (∀ a x, ((![v110] : Fin 1 → IVec S16 32) a x).toNat < S16384.size a)
theorem k0_idx25_inb : ∀ (v110 : IVec S16 32) (k0_hw25 : k0_chk25 v110), ∀ a x, ((![v110] : Fin 1 → IVec S16 32) a x).toNat < S16384.size a := fun v110 k0_hw25 => k0_hw25
def k0_off6 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let c256_i32 : BitVec 32 := 256#32
  let v113 : BitVec 32 := Scalar.addi v2 c256_i32
  ![v113.toNat]

def k0_chk26 (v118 : IVec S16 32) : Prop :=
  (∀ a x, ((![v118] : Fin 1 → IVec S16 32) a x).toNat < S16384.size a)
theorem k0_idx26_inb : ∀ (v118 : IVec S16 32) (k0_hw26 : k0_chk26 v118), ∀ a x, ((![v118] : Fin 1 → IVec S16 32) a x).toNat < S16384.size a := fun v118 k0_hw26 => k0_hw26

def k0_chk27 (v121 : IVec S16 32) : Prop :=
  (∀ a x, ((![v121] : Fin 1 → IVec S16 32) a x).toNat < S16384.size a)
theorem k0_idx27_inb : ∀ (v121 : IVec S16 32) (k0_hw27 : k0_chk27 v121), ∀ a x, ((![v121] : Fin 1 → IVec S16 32) a x).toNat < S16384.size a := fun v121 k0_hw27 => k0_hw27

def k0_chk28 (v124 : IVec S16 32) : Prop :=
  (∀ a x, ((![v124] : Fin 1 → IVec S16 32) a x).toNat < S16384.size a)
theorem k0_idx28_inb : ∀ (v124 : IVec S16 32) (k0_hw28 : k0_chk28 v124), ∀ a x, ((![v124] : Fin 1 → IVec S16 32) a x).toNat < S16384.size a := fun v124 k0_hw28 => k0_hw28

def k0_chk29 (v127 : IVec S16 32) : Prop :=
  (∀ a x, ((![v127] : Fin 1 → IVec S16 32) a x).toNat < S16384.size a)
theorem k0_idx29_inb : ∀ (v127 : IVec S16 32) (k0_hw29 : k0_chk29 v127), ∀ a x, ((![v127] : Fin 1 → IVec S16 32) a x).toNat < S16384.size a := fun v127 k0_hw29 => k0_hw29

def k0_chk30 (v130 : IVec S16 32) : Prop :=
  (∀ a x, ((![v130] : Fin 1 → IVec S16 32) a x).toNat < S16384.size a)
theorem k0_idx30_inb : ∀ (v130 : IVec S16 32) (k0_hw30 : k0_chk30 v130), ∀ a x, ((![v130] : Fin 1 → IVec S16 32) a x).toNat < S16384.size a := fun v130 k0_hw30 => k0_hw30

def k0_chk31 (v133 : IVec S16 32) : Prop :=
  (∀ a x, ((![v133] : Fin 1 → IVec S16 32) a x).toNat < S16384.size a)
theorem k0_idx31_inb : ∀ (v133 : IVec S16 32) (k0_hw31 : k0_chk31 v133), ∀ a x, ((![v133] : Fin 1 → IVec S16 32) a x).toNat < S16384.size a := fun v133 k0_hw31 => k0_hw31

def k0_chk32 (v136 : IVec S16 32) : Prop :=
  (∀ a x, ((![v136] : Fin 1 → IVec S16 32) a x).toNat < S16384.size a)
theorem k0_idx32_inb : ∀ (v136 : IVec S16 32) (k0_hw32 : k0_chk32 v136), ∀ a x, ((![v136] : Fin 1 → IVec S16 32) a x).toNat < S16384.size a := fun v136 k0_hw32 => k0_hw32

def k0_chk33 (v139 : IVec S16 32) : Prop :=
  (∀ a x, ((![v139] : Fin 1 → IVec S16 32) a x).toNat < S16384.size a)
theorem k0_idx33_inb : ∀ (v139 : IVec S16 32) (k0_hw33 : k0_chk33 v139), ∀ a x, ((![v139] : Fin 1 → IVec S16 32) a x).toNat < S16384.size a := fun v139 k0_hw33 => k0_hw33
def k0_off7 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let c384_i32 : BitVec 32 := 384#32
  let v142 : BitVec 32 := Scalar.addi v2 c384_i32
  ![v142.toNat]

def k0_chk34 (v147 : IVec S16 32) : Prop :=
  (∀ a x, ((![v147] : Fin 1 → IVec S16 32) a x).toNat < S16384.size a)
theorem k0_idx34_inb : ∀ (v147 : IVec S16 32) (k0_hw34 : k0_chk34 v147), ∀ a x, ((![v147] : Fin 1 → IVec S16 32) a x).toNat < S16384.size a := fun v147 k0_hw34 => k0_hw34

def k0_chk35 (v150 : IVec S16 32) : Prop :=
  (∀ a x, ((![v150] : Fin 1 → IVec S16 32) a x).toNat < S16384.size a)
theorem k0_idx35_inb : ∀ (v150 : IVec S16 32) (k0_hw35 : k0_chk35 v150), ∀ a x, ((![v150] : Fin 1 → IVec S16 32) a x).toNat < S16384.size a := fun v150 k0_hw35 => k0_hw35

def k0_chk36 (v153 : IVec S16 32) : Prop :=
  (∀ a x, ((![v153] : Fin 1 → IVec S16 32) a x).toNat < S16384.size a)
theorem k0_idx36_inb : ∀ (v153 : IVec S16 32) (k0_hw36 : k0_chk36 v153), ∀ a x, ((![v153] : Fin 1 → IVec S16 32) a x).toNat < S16384.size a := fun v153 k0_hw36 => k0_hw36

def k0_chk37 (v156 : IVec S16 32) : Prop :=
  (∀ a x, ((![v156] : Fin 1 → IVec S16 32) a x).toNat < S16384.size a)
theorem k0_idx37_inb : ∀ (v156 : IVec S16 32) (k0_hw37 : k0_chk37 v156), ∀ a x, ((![v156] : Fin 1 → IVec S16 32) a x).toNat < S16384.size a := fun v156 k0_hw37 => k0_hw37

def k0_chk38 (v159 : IVec S16 32) : Prop :=
  (∀ a x, ((![v159] : Fin 1 → IVec S16 32) a x).toNat < S16384.size a)
theorem k0_idx38_inb : ∀ (v159 : IVec S16 32) (k0_hw38 : k0_chk38 v159), ∀ a x, ((![v159] : Fin 1 → IVec S16 32) a x).toNat < S16384.size a := fun v159 k0_hw38 => k0_hw38

def k0_chk39 (v162 : IVec S16 32) : Prop :=
  (∀ a x, ((![v162] : Fin 1 → IVec S16 32) a x).toNat < S16384.size a)
theorem k0_idx39_inb : ∀ (v162 : IVec S16 32) (k0_hw39 : k0_chk39 v162), ∀ a x, ((![v162] : Fin 1 → IVec S16 32) a x).toNat < S16384.size a := fun v162 k0_hw39 => k0_hw39

def k0_chk40 (v165 : IVec S16 32) : Prop :=
  (∀ a x, ((![v165] : Fin 1 → IVec S16 32) a x).toNat < S16384.size a)
theorem k0_idx40_inb : ∀ (v165 : IVec S16 32) (k0_hw40 : k0_chk40 v165), ∀ a x, ((![v165] : Fin 1 → IVec S16 32) a x).toNat < S16384.size a := fun v165 k0_hw40 => k0_hw40

def k0_chk41 (v168 : IVec S16 32) : Prop :=
  (∀ a x, ((![v168] : Fin 1 → IVec S16 32) a x).toNat < S16384.size a)
theorem k0_idx41_inb : ∀ (v168 : IVec S16 32) (k0_hw41 : k0_chk41 v168), ∀ a x, ((![v168] : Fin 1 → IVec S16 32) a x).toNat < S16384.size a := fun v168 k0_hw41 => k0_hw41
def k0_off8 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let c512_i32 : BitVec 32 := 512#32
  let v171 : BitVec 32 := Scalar.addi v2 c512_i32
  ![v171.toNat]

def k0_chk42 (v176 : IVec S16 32) : Prop :=
  (∀ a x, ((![v176] : Fin 1 → IVec S16 32) a x).toNat < S16384.size a)
theorem k0_idx42_inb : ∀ (v176 : IVec S16 32) (k0_hw42 : k0_chk42 v176), ∀ a x, ((![v176] : Fin 1 → IVec S16 32) a x).toNat < S16384.size a := fun v176 k0_hw42 => k0_hw42

def k0_chk43 (v179 : IVec S16 32) : Prop :=
  (∀ a x, ((![v179] : Fin 1 → IVec S16 32) a x).toNat < S16384.size a)
theorem k0_idx43_inb : ∀ (v179 : IVec S16 32) (k0_hw43 : k0_chk43 v179), ∀ a x, ((![v179] : Fin 1 → IVec S16 32) a x).toNat < S16384.size a := fun v179 k0_hw43 => k0_hw43

def k0_chk44 (v182 : IVec S16 32) : Prop :=
  (∀ a x, ((![v182] : Fin 1 → IVec S16 32) a x).toNat < S16384.size a)
theorem k0_idx44_inb : ∀ (v182 : IVec S16 32) (k0_hw44 : k0_chk44 v182), ∀ a x, ((![v182] : Fin 1 → IVec S16 32) a x).toNat < S16384.size a := fun v182 k0_hw44 => k0_hw44

def k0_chk45 (v185 : IVec S16 32) : Prop :=
  (∀ a x, ((![v185] : Fin 1 → IVec S16 32) a x).toNat < S16384.size a)
theorem k0_idx45_inb : ∀ (v185 : IVec S16 32) (k0_hw45 : k0_chk45 v185), ∀ a x, ((![v185] : Fin 1 → IVec S16 32) a x).toNat < S16384.size a := fun v185 k0_hw45 => k0_hw45

def k0_chk46 (v188 : IVec S16 32) : Prop :=
  (∀ a x, ((![v188] : Fin 1 → IVec S16 32) a x).toNat < S16384.size a)
theorem k0_idx46_inb : ∀ (v188 : IVec S16 32) (k0_hw46 : k0_chk46 v188), ∀ a x, ((![v188] : Fin 1 → IVec S16 32) a x).toNat < S16384.size a := fun v188 k0_hw46 => k0_hw46

def k0_chk47 (v191 : IVec S16 32) : Prop :=
  (∀ a x, ((![v191] : Fin 1 → IVec S16 32) a x).toNat < S16384.size a)
theorem k0_idx47_inb : ∀ (v191 : IVec S16 32) (k0_hw47 : k0_chk47 v191), ∀ a x, ((![v191] : Fin 1 → IVec S16 32) a x).toNat < S16384.size a := fun v191 k0_hw47 => k0_hw47

def k0_chk48 (v194 : IVec S16 32) : Prop :=
  (∀ a x, ((![v194] : Fin 1 → IVec S16 32) a x).toNat < S16384.size a)
theorem k0_idx48_inb : ∀ (v194 : IVec S16 32) (k0_hw48 : k0_chk48 v194), ∀ a x, ((![v194] : Fin 1 → IVec S16 32) a x).toNat < S16384.size a := fun v194 k0_hw48 => k0_hw48

def k0_chk49 (v197 : IVec S16 32) : Prop :=
  (∀ a x, ((![v197] : Fin 1 → IVec S16 32) a x).toNat < S16384.size a)
theorem k0_idx49_inb : ∀ (v197 : IVec S16 32) (k0_hw49 : k0_chk49 v197), ∀ a x, ((![v197] : Fin 1 → IVec S16 32) a x).toNat < S16384.size a := fun v197 k0_hw49 => k0_hw49
def k0_off9 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let c640_i32 : BitVec 32 := 640#32
  let v200 : BitVec 32 := Scalar.addi v2 c640_i32
  ![v200.toNat]

def k0_chk50 (v205 : IVec S16 32) : Prop :=
  (∀ a x, ((![v205] : Fin 1 → IVec S16 32) a x).toNat < S16384.size a)
theorem k0_idx50_inb : ∀ (v205 : IVec S16 32) (k0_hw50 : k0_chk50 v205), ∀ a x, ((![v205] : Fin 1 → IVec S16 32) a x).toNat < S16384.size a := fun v205 k0_hw50 => k0_hw50

def k0_chk51 (v208 : IVec S16 32) : Prop :=
  (∀ a x, ((![v208] : Fin 1 → IVec S16 32) a x).toNat < S16384.size a)
theorem k0_idx51_inb : ∀ (v208 : IVec S16 32) (k0_hw51 : k0_chk51 v208), ∀ a x, ((![v208] : Fin 1 → IVec S16 32) a x).toNat < S16384.size a := fun v208 k0_hw51 => k0_hw51

def k0_chk52 (v211 : IVec S16 32) : Prop :=
  (∀ a x, ((![v211] : Fin 1 → IVec S16 32) a x).toNat < S16384.size a)
theorem k0_idx52_inb : ∀ (v211 : IVec S16 32) (k0_hw52 : k0_chk52 v211), ∀ a x, ((![v211] : Fin 1 → IVec S16 32) a x).toNat < S16384.size a := fun v211 k0_hw52 => k0_hw52

def k0_chk53 (v214 : IVec S16 32) : Prop :=
  (∀ a x, ((![v214] : Fin 1 → IVec S16 32) a x).toNat < S16384.size a)
theorem k0_idx53_inb : ∀ (v214 : IVec S16 32) (k0_hw53 : k0_chk53 v214), ∀ a x, ((![v214] : Fin 1 → IVec S16 32) a x).toNat < S16384.size a := fun v214 k0_hw53 => k0_hw53

def k0_chk54 (v217 : IVec S16 32) : Prop :=
  (∀ a x, ((![v217] : Fin 1 → IVec S16 32) a x).toNat < S16384.size a)
theorem k0_idx54_inb : ∀ (v217 : IVec S16 32) (k0_hw54 : k0_chk54 v217), ∀ a x, ((![v217] : Fin 1 → IVec S16 32) a x).toNat < S16384.size a := fun v217 k0_hw54 => k0_hw54

def k0_chk55 (v220 : IVec S16 32) : Prop :=
  (∀ a x, ((![v220] : Fin 1 → IVec S16 32) a x).toNat < S16384.size a)
theorem k0_idx55_inb : ∀ (v220 : IVec S16 32) (k0_hw55 : k0_chk55 v220), ∀ a x, ((![v220] : Fin 1 → IVec S16 32) a x).toNat < S16384.size a := fun v220 k0_hw55 => k0_hw55

def k0_chk56 (v223 : IVec S16 32) : Prop :=
  (∀ a x, ((![v223] : Fin 1 → IVec S16 32) a x).toNat < S16384.size a)
theorem k0_idx56_inb : ∀ (v223 : IVec S16 32) (k0_hw56 : k0_chk56 v223), ∀ a x, ((![v223] : Fin 1 → IVec S16 32) a x).toNat < S16384.size a := fun v223 k0_hw56 => k0_hw56

def k0_chk57 (v226 : IVec S16 32) : Prop :=
  (∀ a x, ((![v226] : Fin 1 → IVec S16 32) a x).toNat < S16384.size a)
theorem k0_idx57_inb : ∀ (v226 : IVec S16 32) (k0_hw57 : k0_chk57 v226), ∀ a x, ((![v226] : Fin 1 → IVec S16 32) a x).toNat < S16384.size a := fun v226 k0_hw57 => k0_hw57
def k0_off10 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let c768_i32 : BitVec 32 := 768#32
  let v229 : BitVec 32 := Scalar.addi v2 c768_i32
  ![v229.toNat]

def k0_chk58 (v234 : IVec S16 32) : Prop :=
  (∀ a x, ((![v234] : Fin 1 → IVec S16 32) a x).toNat < S16384.size a)
theorem k0_idx58_inb : ∀ (v234 : IVec S16 32) (k0_hw58 : k0_chk58 v234), ∀ a x, ((![v234] : Fin 1 → IVec S16 32) a x).toNat < S16384.size a := fun v234 k0_hw58 => k0_hw58

def k0_chk59 (v237 : IVec S16 32) : Prop :=
  (∀ a x, ((![v237] : Fin 1 → IVec S16 32) a x).toNat < S16384.size a)
theorem k0_idx59_inb : ∀ (v237 : IVec S16 32) (k0_hw59 : k0_chk59 v237), ∀ a x, ((![v237] : Fin 1 → IVec S16 32) a x).toNat < S16384.size a := fun v237 k0_hw59 => k0_hw59

def k0_chk60 (v240 : IVec S16 32) : Prop :=
  (∀ a x, ((![v240] : Fin 1 → IVec S16 32) a x).toNat < S16384.size a)
theorem k0_idx60_inb : ∀ (v240 : IVec S16 32) (k0_hw60 : k0_chk60 v240), ∀ a x, ((![v240] : Fin 1 → IVec S16 32) a x).toNat < S16384.size a := fun v240 k0_hw60 => k0_hw60

def k0_chk61 (v243 : IVec S16 32) : Prop :=
  (∀ a x, ((![v243] : Fin 1 → IVec S16 32) a x).toNat < S16384.size a)
theorem k0_idx61_inb : ∀ (v243 : IVec S16 32) (k0_hw61 : k0_chk61 v243), ∀ a x, ((![v243] : Fin 1 → IVec S16 32) a x).toNat < S16384.size a := fun v243 k0_hw61 => k0_hw61

def k0_chk62 (v246 : IVec S16 32) : Prop :=
  (∀ a x, ((![v246] : Fin 1 → IVec S16 32) a x).toNat < S16384.size a)
theorem k0_idx62_inb : ∀ (v246 : IVec S16 32) (k0_hw62 : k0_chk62 v246), ∀ a x, ((![v246] : Fin 1 → IVec S16 32) a x).toNat < S16384.size a := fun v246 k0_hw62 => k0_hw62

def k0_chk63 (v249 : IVec S16 32) : Prop :=
  (∀ a x, ((![v249] : Fin 1 → IVec S16 32) a x).toNat < S16384.size a)
theorem k0_idx63_inb : ∀ (v249 : IVec S16 32) (k0_hw63 : k0_chk63 v249), ∀ a x, ((![v249] : Fin 1 → IVec S16 32) a x).toNat < S16384.size a := fun v249 k0_hw63 => k0_hw63

def k0_chk64 (v252 : IVec S16 32) : Prop :=
  (∀ a x, ((![v252] : Fin 1 → IVec S16 32) a x).toNat < S16384.size a)
theorem k0_idx64_inb : ∀ (v252 : IVec S16 32) (k0_hw64 : k0_chk64 v252), ∀ a x, ((![v252] : Fin 1 → IVec S16 32) a x).toNat < S16384.size a := fun v252 k0_hw64 => k0_hw64

def k0_chk65 (v255 : IVec S16 32) : Prop :=
  (∀ a x, ((![v255] : Fin 1 → IVec S16 32) a x).toNat < S16384.size a)
theorem k0_idx65_inb : ∀ (v255 : IVec S16 32) (k0_hw65 : k0_chk65 v255), ∀ a x, ((![v255] : Fin 1 → IVec S16 32) a x).toNat < S16384.size a := fun v255 k0_hw65 => k0_hw65
def k0_off11 (i : grid0.Coords) (c896_i32 : BitVec 32) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let v258 : BitVec 32 := Scalar.addi v2 c896_i32
  ![v258.toNat]
def k0_off12 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S17 : Shape := ⟨1, ![17]⟩
abbrev S1x17 : Shape := ⟨2, ![1, 17]⟩
abbrev S16384x1 : Shape := ⟨2, ![16384, 1]⟩
abbrev S16384x17 : Shape := ⟨2, ![16384, 17]⟩
abbrev S_ : Shape := ⟨0, ![]⟩
abbrev S1 : Shape := ⟨1, ![1]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S16384, .i32⟩
  | .hbm, ⟨1, _⟩ => ⟨S17, .i32⟩
  | .hbm, ⟨2, _⟩ => ⟨S16384, .f32⟩
  | .hbm, ⟨3, _⟩ => ⟨S16384, .i32⟩
  | .hbm, ⟨4, _⟩ => ⟨S1x17, .i32⟩
  | .hbm, ⟨5, _⟩ => ⟨S16384x1, .i32⟩
  | .hbm, ⟨6, _⟩ => ⟨S16384x17, .i32⟩
  | .hbm, ⟨7, _⟩ => ⟨S16384x17, .i32⟩
  | .hbm, ⟨8, _⟩ => ⟨S16384x17, .i1⟩
  | .hbm, ⟨9, _⟩ => ⟨S16384x17, .i32⟩
  | .hbm, ⟨10, _⟩ => ⟨S_, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384, .f32⟩
  | .hbm, ⟨52, _⟩ => ⟨S_, .f32⟩
  | .hbm, ⟨53, _⟩ => ⟨S16384, .f32⟩
  | .hbm, ⟨54, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_cst : Ref sig .tc := ⟨.hbm, 52, rfl⟩
abbrev main_call1_v14 : Ref sig .tc := ⟨.hbm, 53, rfl⟩
abbrev main_v19 : Ref sig .tc := ⟨.hbm, 54, rfl⟩

abbrev nD : Nat := 1
abbrev τ : Topo := Topo.v7x

variable {F : FTy → Type} [FloatOps F]
-- ==== Proof.Positions.lean ====
module

public import proofs.«01_k».proof.Proof.Gen.KernelIdeal
public import proofs.«01_k».proof.Proof.Gen.KernelIdeal.Skeleton
public import Mathlib.Data.Finset.Lattice.Fold
public import Mathlib.Tactic.Ring

/-!
  The integer arithmetic of one tile, with no machine in it: what the sixteen-lane scan, the masked
  scatter and the running maximum compute, as statements about the words' signed values.

  The sixteen segment starts are a vector of words `o`. `lastStart o n` is the largest start below
  `n` (zero when none is above zero); position `j` lies in the segment that begins at
  `lastStart o (j + 1)`, so its place in the segment is `j - lastStart o (j + 1)`.
-/

@[expose] public section

noncomputable section

namespace Cert.Proof.Positions

open Cert.KernelIdeal Cert.KernelIdeal.Gen
open Idealize.ShloMosaic

variable {F : FTy → Type} [FloatOps F]

/-! ## Words flipped at the sign bit -/

/-- Below the sign bit, flipping it adds it. -/
theorem xor_low {n : ℕ} (h : n < 2 ^ 31) : n ^^^ 2 ^ 31 = 2 ^ 31 + n := by
  apply Nat.eq_of_testBit_eq
  intro j
  rw [Nat.testBit_xor, Nat.testBit_two_pow]
  rcases Nat.lt_trichotomy j 31 with hj | hj | hj
  · rw [Nat.testBit_two_pow_add_gt hj]; simp [show ¬(31 = j) by omega]
  · subst hj; rw [Nat.testBit_two_pow_add_eq]; simp
  · have h2 : 2 ^ 31 + n < 2 ^ j := lt_of_lt_of_le (by omega : 2 ^ 31 + n < 2 ^ 32) (Nat.pow_le_pow_right (by decide) hj)
    rw [Nat.testBit_lt_two_pow h2, Nat.testBit_lt_two_pow (lt_of_le_of_lt (by omega) h2)]
    simp [show ¬(31 = j) by omega]

/-- Flipping the sign bit turns the signed order into the unsigned one. -/
theorem toNat_flip (x : BitVec 32) : ((x ^^^ 2147483648#32).toNat : ℤ) = x.toInt + 2147483648 := by
  have hx := x.isLt
  rw [BitVec.toNat_xor, BitVec.toInt_eq_toNat_cond, show (2147483648#32).toNat = 2 ^ 31 from rfl]
  by_cases h : x.toNat < 2 ^ 31
  · rw [xor_low h, if_pos (by omega)]; push_cast; omega
  · obtain ⟨r, hr⟩ : ∃ r, x.toNat = 2 ^ 31 + r := ⟨x.toNat - 2 ^ 31, by omega⟩
    rw [hr, ← xor_low (show r < 2 ^ 31 by omega), Nat.xor_assoc, Nat.xor_self, Nat.xor_zero, xor_low (by omega), if_neg (by omega)]
    push_cast; omega

theorem flip_flip (x : BitVec 32) : x ^^^ 2147483648#32 ^^^ 2147483648#32 = x := by
  rw [BitVec.xor_assoc, BitVec.xor_self, BitVec.xor_zero]

/-- Lane `l` of a sixteen-lane vector. -/
def lane (l : ℕ) (h : l < 16) : S16.Idx := fun a => ⟨l, by obtain rfl := Fin.eq_zero a; exact h⟩

theorem lane_val (l : ℕ) (h : l < 16) : ((lane l h) 0).val = l := rfl

theorem idx_lt (x : S16.Idx) : (x 0).val < 16 := (x 0).isLt

theorem ofLane_eq {d : Fin 1 → ℕ} (x : (⟨1, d⟩ : Shape).Idx) : (Shape.ofLane (x 0) : (⟨1, d⟩ : Shape).Idx) = x := by
  funext a; obtain rfl := Fin.eq_zero a; rfl

/-! ## The scan -/

/-- A running unsigned maximum over a list is at least its start and every member, and is one of them. -/
theorem foldl_max {ι : Type} (g : ι → BitVec 32) (l : List ι) (r : BitVec 32) :
    (r.toNat ≤ (l.foldl (fun r k => ScanKind.step .max r (g k)) r).toNat)
      ∧ (∀ k ∈ l, (g k).toNat ≤ (l.foldl (fun r k => ScanKind.step .max r (g k)) r).toNat)
      ∧ (l.foldl (fun r k => ScanKind.step .max r (g k)) r = r ∨ ∃ k ∈ l, l.foldl (fun r k => ScanKind.step .max r (g k)) r = g k) := by
  induction l generalizing r with
  | nil => exact ⟨le_refl _, by simp, .inl rfl⟩
  | cons a l ih =>
    obtain ⟨h1, h2, h3⟩ := ih (ScanKind.step .max r (g a))
    have hs : r.toNat ≤ (ScanKind.step .max r (g a)).toNat ∧ (g a).toNat ≤ (ScanKind.step .max r (g a)).toNat
        ∧ (ScanKind.step .max r (g a) = r ∨ ScanKind.step .max r (g a) = g a) := by
      simp only [ScanKind.step, IntOp.maxui, BitVec.ult, decide_eq_true_eq]
      split
      · exact ⟨le_refl _, by omega, .inl rfl⟩
      · exact ⟨by omega, le_refl _, .inr rfl⟩
    simp only [List.foldl_cons]
    refine ⟨hs.1.trans h1, ?_, ?_⟩
    · intro k hk
      rcases List.mem_cons.mp hk with rfl | hk
      · exact hs.2.1.trans h1
      · exact h2 k hk
    · rcases h3 with h3 | ⟨k, hk, h3⟩
      · rcases hs.2.2 with h | h
        · left; rw [h3, h]
        · right; exact ⟨a, List.mem_cons_self, by rw [h3, h]⟩
      · right; exact ⟨k, List.mem_cons_of_mem _ hk, h3⟩

/-- The running signed maximum of a sixteen-lane vector, as the kernel takes it: the unsigned scan
    between two flips of the sign bit. -/
abbrev runMax (v : IVec S16 32) : IVec S16 32 :=
  xori (scan .max (xori v (broadcast S16 2147483648#32))) (broadcast S16 2147483648#32)

/-- The running maximum at a lane bounds every word up to that lane and is one of them. -/
theorem runMax_spec (v : IVec S16 32) (x : S16.Idx) :
    (∀ y : S16.Idx, (y 0).val ≤ (x 0).val → (v y).toInt ≤ (runMax v x).toInt)
      ∧ ∃ y : S16.Idx, (y 0).val ≤ (x 0).val ∧ runMax v x = v y := by
  set u : IVec S16 32 := xori v (broadcast S16 2147483648#32) with hu
  have hux : ∀ y, u y = v y ^^^ 2147483648#32 := fun y => rfl
  have hlane : ∀ y : S16.Idx, (Shape.ofLane (y 0) : S16.Idx) = y := fun y => ofLane_eq y
  obtain ⟨h1, h2, h3⟩ := foldl_max (fun k : Fin (![16] 0) => u (Shape.ofLane k))
    ((List.finRange (![16] 0)).filter fun k => decide (0 < k.val ∧ k.val ≤ (x 0).val)) (u (Shape.ofLane ⟨0, (x 0).pos⟩))
  set s := scan .max u x with hs
  have hsd : s = ((List.finRange (![16] 0)).filter fun k => decide (0 < k.val ∧ k.val ≤ (x 0).val)).foldl
      (fun r k => ScanKind.step .max r (u (Shape.ofLane k))) (u (Shape.ofLane ⟨0, (x 0).pos⟩)) := rfl
  rw [← hsd] at h1 h2 h3
  have hr : runMax v x = s ^^^ 2147483648#32 := rfl
  have hle : ∀ y : S16.Idx, (y 0).val ≤ (x 0).val → (u y).toNat ≤ s.toNat := by
    intro y hy
    by_cases h0 : (y 0).val = 0
    · have : u y = u (Shape.ofLane ⟨0, (x 0).pos⟩) := by
        rw [← hlane y]; congr 2; exact Fin.ext h0
      rw [this]; exact h1
    · have := h2 (y 0) (by simp only [List.mem_filter, List.mem_finRange, true_and, decide_eq_true_eq]; omega)
      rwa [hlane y] at this
  refine ⟨?_, ?_⟩
  · intro y hy
    have h := hle y hy
    have a := toNat_flip (v y)
    have b := toNat_flip (s ^^^ 2147483648#32)
    rw [flip_flip] at b
    rw [hux] at h
    rw [hr]; omega
  · rcases h3 with h3 | ⟨k, hk, h3⟩
    · exact ⟨Shape.ofLane ⟨0, (x 0).pos⟩, Nat.zero_le _, by rw [hr, h3, hux, flip_flip]⟩
    · refine ⟨Shape.ofLane k, ?_, by rw [hr, h3, hux, flip_flip]⟩
      simp only [List.mem_filter, List.mem_finRange, true_and, decide_eq_true_eq] at hk
      exact hk.2

/-! ## The scatter -/

/-- What a masked scatter leaves at an element: where the lanes that name it agree on the word, that word;
    where none names it, what was there. -/
theorem storeIdx_apply {s : Shape} {d : Fin 1 → ℕ} (f : Vec F s .i32) (idxs : Fin s.rank → IVec ⟨1, d⟩ 32) (v : Vec F ⟨1, d⟩ .i32)
    (mask : IVec ⟨1, d⟩ 1) (h : ∀ a x, (idxs a x).toNat < s.size a) (j : s.Idx) (y : BitVec 32)
    (hag : ∀ x, mask x = 1 → (∀ a, (j a).val = (idxs a x).toNat) → v x = y) :
    storeIdx f idxs v mask false h j = if ∃ x, mask x = 1 ∧ ∀ a, (j a).val = (idxs a x).toNat then y else f j := by
  have hiff : (∃ x, mask x = 1 ∧ ∀ a, (j a).val = (idxs a x).toNat)
      ↔ ∃ k ∈ List.finRange (d 0), mask (Shape.ofLane k) = 1 ∧ ∀ a, (j a).val = (idxs a (Shape.ofLane k)).toNat := by
    constructor
    · rintro ⟨x, hx⟩
      refine ⟨x 0, List.mem_finRange _, ?_⟩
      rwa [ofLane_eq x]
    · rintro ⟨k, -, hk⟩; exact ⟨_, hk⟩
  rw [if_congr hiff rfl rfl]
  unfold storeIdx
  generalize List.finRange (d 0) = l
  induction l generalizing f with
  | nil => simp
  | cons a l ih =>
    rw [List.foldl_cons, ih]
    by_cases hm : mask (Shape.ofLane a) = 1
    · by_cases hi : ∀ b, (j b).val = (idxs b (Shape.ofLane a)).toNat
      · have hy := hag _ hm hi
        have hall : ∀ b, (j b).val = (idxAt idxs h (Shape.ofLane a) b).val := hi
        rw [if_pos (⟨a, List.mem_cons_self, hm, hi⟩ : ∃ k ∈ a :: l, _)]
        split
        · rfl
        · simp only [hm, if_true]
          rw [if_pos hall]; exact hy
      · have hall : ¬ ∀ b, (j b).val = (idxAt idxs h (Shape.ofLane a) b).val := hi
        simp only [hm, if_true]
        rw [if_neg hall]
        refine if_congr ?_ rfl rfl
        simp only [List.mem_cons, exists_eq_or_imp, hi, and_false, false_or]
    · simp only [hm, if_false, List.mem_cons, exists_eq_or_imp, false_and, false_or]

/-! ## Segment starts -/

/-- The largest segment start below `n`, zero when none is above zero. -/
def lastStart (o : IVec S16 32) (n : ℕ) : ℕ :=
  Finset.univ.sup fun k : S16.Idx => if (o k).toInt < n then (o k).toInt.toNat else 0

theorem lastStart_le_iff (o : IVec S16 32) (n a : ℕ) :
    lastStart o n ≤ a ↔ ∀ k, (o k).toInt < n → (o k).toInt ≤ a := by
  unfold lastStart
  rw [Finset.sup_le_iff]
  constructor
  · intro h k hk
    have := h k (Finset.mem_univ _)
    rw [if_pos hk] at this; omega
  · intro h k _
    split
    · rename_i hk; have := h k hk; omega
    · exact Nat.zero_le _

theorem le_lastStart (o : IVec S16 32) (n : ℕ) (k : S16.Idx) (hk : (o k).toInt < n) : (o k).toInt ≤ lastStart o n :=
  (lastStart_le_iff o n _).mp le_rfl k hk

/-- A position's segment starts at or before it. -/
theorem lastStart_succ_le (o : IVec S16 32) (n : ℕ) : lastStart o (n + 1) ≤ n :=
  (lastStart_le_iff o _ _).mpr fun k hk => by push_cast at hk; omega

theorem lastStart_mono (o : IVec S16 32) {n n' : ℕ} (h : n ≤ n') : lastStart o n ≤ lastStart o n' :=
  (lastStart_le_iff o _ _).mpr fun k hk => le_lastStart o n' k (by omega)

/-- The largest start below `n` is zero or one of the starts. -/
theorem lastStart_mem (o : IVec S16 32) (n : ℕ) :
    lastStart o n = 0 ∨ ∃ k, (o k).toInt < n ∧ (o k).toInt = lastStart o n := by
  obtain ⟨k, -, hk⟩ := Finset.exists_mem_eq_sup (Finset.univ : Finset S16.Idx) ⟨lane 0 (by decide), Finset.mem_univ _⟩
    fun k : S16.Idx => if (o k).toInt < n then (o k).toInt.toNat else 0
  have hk' : lastStart o n = if (o k).toInt < n then (o k).toInt.toNat else 0 := hk
  split at hk'
  · by_cases h0 : lastStart o n = 0
    · exact .inl h0
    · exact .inr ⟨k, by assumption, by omega⟩
  · exact .inl hk'

/-- What the scatter leaves in a tile's position scratch: at the place of each segment start strictly inside the
    tile (the tile begins at `b`), the start itself; zero elsewhere. -/
def mark (o : IVec S16 32) (b i : ℕ) : BitVec 32 :=
  if ∃ k, (b : ℤ) < (o k).toInt ∧ (o k).toInt = b + i then BitVec.ofNat 32 (b + i) else 0

/-- A position of the tile beginning at `b`, as a place in its segment. -/
def place (o : IVec S16 32) (b i : ℕ) : BitVec 32 := BitVec.ofNat 32 (b + i - lastStart o (b + i + 1))

theorem toInt_ofNat_small {n : ℕ} (h : n < 2147483648) : (BitVec.ofNat 32 n).toInt = n := by
  rw [BitVec.toInt_eq_toNat_cond, BitVec.toNat_ofNat, Nat.mod_eq_of_lt (by omega)]
  split <;> omega

theorem toInt_mark (o : IVec S16 32) (b i : ℕ) (h : b + i < 2147483648) :
    (mark o b i).toInt = if ∃ k, (b : ℤ) < (o k).toInt ∧ (o k).toInt = b + i then ((b + i : ℕ) : ℤ) else 0 := by
  unfold mark
  split
  · rw [toInt_ofNat_small h]
  · rfl

theorem place_toNat (o : IVec S16 32) (b i : ℕ) (h : b + i < 2147483648) :
    (place o b i).toNat = b + i - lastStart o (b + i + 1) := by
  unfold place
  rw [BitVec.toNat_ofNat, Nat.mod_eq_of_lt (by omega)]

theorem toInt_maxsi (x y : BitVec 32) : (IntOp.maxsi x y).toInt = max x.toInt y.toInt := by
  unfold IntOp.maxsi
  simp only [BitVec.slt, decide_eq_true_eq]
  split <;> omega

/-- One trip's sixteen running starts: the scan of the marks, against the start carried into the trip. -/
theorem off_toInt (o : IVec S16 32) (b t : ℕ) (ht : b + 16 * t + 16 ≤ 16384) (c : BitVec 32) (v : Vec F S16 .i32)
    (hv : ∀ x : S16.Idx, v x = mark o b (16 * t + (x 0).val))
    (hc : c.toInt.toNat = lastStart o (max (b + 1) (b + 16 * t))) (x : S16.Idx) :
    (k0_pay5 (F := F) c v x).toInt = lastStart o (b + 16 * t + (x 0).val + 1) := by
  have hx : (x 0).val < 16 := (x 0).isLt
  have hp : k0_pay5 (F := F) c v x = IntOp.maxsi (runMax v x) c := rfl
  rw [hp, toInt_maxsi]
  obtain ⟨h1, y, hy, hyv⟩ := runMax_spec v x
  have hm : ∀ y : S16.Idx, (v y).toInt = if ∃ k, (b : ℤ) < (o k).toInt ∧ (o k).toInt = (b : ℤ) + ((16 * t + (y 0).val : ℕ) : ℤ) then ((b + (16 * t + (y 0).val) : ℕ) : ℤ) else 0 := by
    intro y
    have hy16 : (y 0).val < 16 := (y 0).isLt
    rw [hv y, toInt_mark _ _ _ (by omega)]
  -- both are at most the start sought
  have hc' : c.toInt ≤ lastStart o (b + 16 * t + (x 0).val + 1) := by
    have := lastStart_mono o (n := max (b + 1) (b + 16 * t)) (n' := b + 16 * t + (x 0).val + 1) (by omega)
    omega
  have hr' : (runMax v x).toInt ≤ lastStart o (b + 16 * t + (x 0).val + 1) := by
    rw [hyv, hm y]
    split
    · rename_i hk
      obtain ⟨k, hk1, hk2⟩ := hk
      have := le_lastStart o (b + 16 * t + (x 0).val + 1) k (by omega)
      omega
    · omega
  have hr0 : 0 ≤ (runMax v x).toInt := by
    have := h1 x le_rfl
    rw [hm x] at this
    split at this <;> omega
  -- and one of them reaches it
  have hge : lastStart o (b + 16 * t + (x 0).val + 1) ≤ max (runMax v x).toInt.toNat c.toInt.toNat := by
    rw [lastStart_le_iff]
    intro k hk
    by_cases hlow : (o k).toInt < (max (b + 1) (b + 16 * t) : ℕ)
    · have := le_lastStart o _ k hlow
      omega
    · obtain ⟨l, hl⟩ : ∃ l : ℕ, (o k).toInt = b + 16 * t + l := ⟨((o k).toInt - b - 16 * t).toNat, by omega⟩
      have hlx : l ≤ (x 0).val := by omega
      have := h1 (lane l (lt_of_le_of_lt hlx hx)) hlx
      rw [hm, if_pos ⟨k, by omega, by rw [lane_val]; push_cast; omega⟩, lane_val] at this
      push_cast at this
      omega
  omega

/-- One trip's stored words: the sixteen places of its positions. -/
theorem pay6_eq (o : IVec S16 32) (b t : ℕ) (ht : b + 16 * t + 16 ≤ 16384) (k : Fin k0_t2_loop.trips) (hk : k.val = t)
    (c : BitVec 32) (v : Vec F S16 .i32)
    (hv : ∀ x : S16.Idx, v x = mark o b (16 * t + (x 0).val))
    (hc : c.toInt.toNat = lastStart o (max (b + 1) (b + 16 * t))) (x : S16.Idx) :
    k0_pay6 (F := F) (BitVec.ofNat 32 b) k c v x = place o b (16 * t + (x 0).val) := by
  have hx : (x 0).val < 16 := (x 0).isLt
  have ho := off_toInt o b t ht c v hv hc x
  have hle := lastStart_succ_le o (b + 16 * t + (x 0).val)
  have hiv : Scf.iv 0#32 1#32 k = BitVec.ofNat 32 t := by
    subst hk; simp [Scf.iv]
  have hp : k0_pay6 (F := F) (BitVec.ofNat 32 b) k c v x
      = (BitVec.ofNat 32 (0 * 16 + (x 0).val) + (BitVec.ofNat 32 b + Scf.iv 0#32 1#32 k * 16#32)) - k0_pay5 (F := F) c v x := rfl
  rw [hp, hiv]
  have hoff : k0_pay5 (F := F) c v x = BitVec.ofNat 32 (lastStart o (b + 16 * t + (x 0).val + 1)) := by
    apply BitVec.eq_of_toInt_eq
    rw [ho, toInt_ofNat_small (by omega)]
  rw [hoff]
  apply BitVec.eq_of_toNat_eq
  rw [place_toNat o b _ (by omega), show b + (16 * t + (x 0).val) = b + 16 * t + (x 0).val by omega]
  simp only [BitVec.toNat_sub, BitVec.toNat_add, BitVec.toNat_mul, BitVec.toNat_ofNat]
  omega

/-- The start carried to the next trip. -/
theorem pay7_eq (o : IVec S16 32) (b t : ℕ) (ht : b + 16 * t + 16 ≤ 16384) (c : BitVec 32) (v : Vec F S16 .i32)
    (hv : ∀ x : S16.Idx, v x = mark o b (16 * t + (x 0).val))
    (hc : c.toInt.toNat = lastStart o (max (b + 1) (b + 16 * t))) :
    (extractAt ![0] (k0_pay7 (F := F) c v) inpos_S1_p0).toInt.toNat = lastStart o (max (b + 1) (b + 16 * (t + 1))) := by
  have hp : extractAt ![0] (k0_pay7 (F := F) c v) inpos_S1_p0 = k0_pay5 (F := F) c v (lane 15 (by decide)) := by
    show k0_pay5 (F := F) c v _ = _
    congr 1
    funext a; obtain rfl := Fin.eq_zero a; rfl
  rw [hp, off_toInt o b t ht c v hv hc, Int.toNat_natCast, lane_val]
  rw [show b + 16 * t + 15 + 1 = max (b + 1) (b + 16 * (t + 1)) by omega]

/-! ## The start carried into the first trip, and the scattered marks -/

/-- The tile's first position. -/
theorem base_eq (L : grid0.Coords) :
    Scalar.muli (Scalar.addi (Scalar.muli (BitVec.ofNat 32 (L 1).val) 1#32) (BitVec.ofNat 32 (L 0).val)) 1024#32
      = BitVec.ofNat 32 (1024 * (L 1).val) := by
  have h1 : (L 1).val < 16 := (L 1).isLt
  have h0 : (L 0).val < 1 := (L 0).isLt
  apply BitVec.eq_of_toNat_eq
  simp only [Scalar.muli, Scalar.addi, IntOp.muli, IntOp.addi, BitVec.toNat_mul, BitVec.toNat_add, BitVec.toNat_ofNat]
  omega

theorem cmpi_one (p : CmpIPredicate) (x y : BitVec 32) : IntOp.cmpi p x y = 1 ↔ (match p with
    | .eq => x == y | .ne => x != y
    | .slt => x.slt y | .sle => x.sle y | .sgt => y.slt x | .sge => y.sle x
    | .ult => x.ult y | .ule => x.ule y | .ugt => y.ult x | .uge => y.ule x) = true := by
  have h : ∀ c : Bool, BitVec.ofBool c = 1 ↔ c = true := by decide
  exact h _

/-- The start carried into the first trip: the largest one at or before the tile's first position, in sign no
    less than what the sequence needs. -/
theorem carry0_eq (L : grid0.Coords) (o : Vec F S16 .i32) :
    (extractAt ![15] (k0_pay2 (F := F) L o) inpos_S16_p15).toInt.toNat
      = lastStart o (max (1024 * (L 1).val + 1) (1024 * (L 1).val + 16 * 0)) := by
  have hL : (L 1).val < 16 := (L 1).isLt
  set b := 1024 * (L 1).val with hb
  let w : IVec S16 32 := select (cmpi .sle o (broadcast S16 (BitVec.ofNat 32 b))) o (broadcast S16 0#32)
  have hp : extractAt ![15] (k0_pay2 (F := F) L o) inpos_S16_p15 = runMax w (lane 15 (by decide)) := by
    have := base_eq L
    unfold k0_pay2
    simp only [this]
    rfl
  rw [hp]
  obtain ⟨h1, y, hy, hyv⟩ := runMax_spec w (lane 15 (by decide))
  have hw : ∀ k, (w k).toInt = if (o k).toInt ≤ b then (o k).toInt else 0 := by
    intro k
    have hw' : w k = if IntOp.cmpi .sle (o k) (BitVec.ofNat 32 b) = 1 then o k else 0#32 := rfl
    rw [hw']
    simp only [cmpi_one, BitVec.sle, decide_eq_true_eq, toInt_ofNat_small (show b < 2147483648 by omega)]
    split <;> rfl
  apply le_antisymm
  · rw [hyv, hw y]
    split
    · have := le_lastStart o (max (b + 1) (b + 16 * 0)) y (by omega)
      omega
    · simp
  · rw [lastStart_le_iff]
    intro k hk
    have := h1 k (by have := idx_lt k; rw [lane_val]; omega)
    rw [hw k, if_pos (by omega)] at this
    omega

/-- The lanes the scatter stores: the starts strictly inside the tile. -/
theorem pay3_one (L : grid0.Coords) (o : Vec F S16 .i32) (x : S16.Idx) :
    k0_pay3 (F := F) L o x = 1 ↔ ((1024 * (L 1).val : ℕ) : ℤ) < (o x).toInt ∧ (o x).toInt < ((1024 * (L 1).val + 1024 : ℕ) : ℤ) := by
  have hL : (L 1).val < 16 := (L 1).isLt
  set b := 1024 * (L 1).val with hb
  have hp : k0_pay3 (F := F) L o x
      = IntOp.andi (IntOp.cmpi .sgt (o x) (BitVec.ofNat 32 b)) (IntOp.cmpi .slt (o x) (BitVec.ofNat 32 b + 1024#32)) := by
    have := base_eq L
    unfold k0_pay3
    simp only [this]
    rfl
  have hadd : BitVec.ofNat 32 b + 1024#32 = BitVec.ofNat 32 (b + 1024) := by
    apply BitVec.eq_of_toNat_eq
    simp only [BitVec.toNat_add, BitVec.toNat_ofNat]; omega
  have hand : ∀ p q : BitVec 1, IntOp.andi p q = 1 ↔ p = 1 ∧ q = 1 := by decide
  rw [hp, hadd, hand, cmpi_one, cmpi_one]
  simp only [BitVec.slt, decide_eq_true_eq, toInt_ofNat_small (show b < 2147483648 by omega),
    toInt_ofNat_small (show b + 1024 < 2147483648 by omega)]

/-- Where a lane stores: the start's place in the tile, or the first place for a lane that stores nothing. -/
theorem pay4_toNat (L : grid0.Coords) (o : Vec F S16 .i32) (x : S16.Idx) :
    (k0_pay4 (F := F) L o x).toNat = if k0_pay3 (F := F) L o x = 1 then ((o x).toInt - ((1024 * (L 1).val : ℕ) : ℤ)).toNat else 0 := by
  have hL : (L 1).val < 16 := (L 1).isLt
  have hp : k0_pay4 (F := F) L o x
      = if k0_pay3 (F := F) L o x = 1 then o x - BitVec.ofNat 32 (1024 * (L 1).val) else 0#32 := by
    have := base_eq L
    unfold k0_pay4
    simp only [this]
    rfl
  rw [hp]
  split
  · rename_i h
    rw [pay3_one] at h
    have := (o x).isLt
    have hb : (BitVec.ofNat 32 (1024 * (L 1).val)).toNat = 1024 * (L 1).val := by
      rw [BitVec.toNat_ofNat, Nat.mod_eq_of_lt (by omega)]
    rw [BitVec.toNat_sub, hb]
    rw [BitVec.toInt_eq_toNat_cond] at h ⊢
    split at h <;> rename_i hlt
    · rw [if_pos hlt]; omega
    · omega
  · rfl

/-- The scatter's indices are in range, whatever the starts are. -/
theorem chk1 (L : grid0.Coords) (o : Vec F S16 .i32) : k0_chk1 (k0_pay4 (F := F) L o) := by
  intro a x
  obtain rfl := Fin.eq_zero a
  show (k0_pay4 (F := F) L o x).toNat < 1024
  rw [pay4_toNat]
  split
  · rename_i h
    rw [pay3_one] at h
    omega
  · omega

/-- Scattering into zeros leaves the marks. -/
theorem scatter_eq (L : grid0.Coords) (o : Vec F S16 .i32) (f : Vec F S1024 .i32) (hf : ∀ j, f j = 0#32)
    (h : ∀ a x, ((![k0_pay4 (F := F) L o] : Fin 1 → IVec S16 32) a x).toNat < S1024.size a) (j : S1024.Idx) :
    storeIdx f ![k0_pay4 (F := F) L o] o (k0_pay3 (F := F) L o) false h j = mark o (1024 * (L 1).val) (j 0).val := by
  have hL : (L 1).val < 16 := (L 1).isLt
  have hj : (j 0).val < 1024 := (j 0).isLt
  have hx : ∀ x, (k0_pay3 (F := F) L o x = 1 ∧ ∀ a, (j a).val = ((![k0_pay4 (F := F) L o] : Fin 1 → IVec S16 32) a x).toNat)
      ↔ ((1024 * (L 1).val : ℕ) : ℤ) < (o x).toInt ∧ (o x).toInt = ((1024 * (L 1).val : ℕ) : ℤ) + ((j 0).val : ℤ) := by
    intro x
    constructor
    · rintro ⟨h3, h4⟩
      have h4' : (j 0).val = (k0_pay4 (F := F) L o x).toNat := h4 0
      rw [pay4_toNat, if_pos h3] at h4'
      rw [pay3_one] at h3
      exact ⟨h3.1, by omega⟩
    · rintro ⟨h3, h4⟩
      have h3' := (pay3_one L o x).mpr ⟨h3, by push_cast at h4 ⊢; omega⟩
      refine ⟨h3', fun a => ?_⟩
      obtain rfl := Fin.eq_zero a
      show (j 0).val = (k0_pay4 (F := F) L o x).toNat
      rw [pay4_toNat, if_pos h3']; omega
  rw [storeIdx_apply f _ o _ h j (BitVec.ofNat 32 (1024 * (L 1).val + (j 0).val))]
  · unfold mark
    rw [hf]
    exact if_congr (exists_congr hx) rfl rfl
  · intro x h3 h4
    have h5 := ((hx x).mp ⟨h3, h4⟩).2
    apply BitVec.eq_of_toInt_eq
    rw [toInt_ofNat_small (by omega), h5]
    push_cast; rfl

end Cert.Proof.Positions

end
-- ==== Proof.Setup.lean ====
/-
  What the proof of the kernel is stated over: the program as the launch theorem sees it, the ghost state (the
  handshakes' rounds, write mode for the one result every tile writes, the transfers' counters), the arrays, the values
  they end with, the sets of elements each tile owns, and how what the call takes is dealt to the sixteen tiles and joined again.
-/
module

public import proofs.«01_k».proof.Defs
public import proofs.«01_k».proof.Proof.Positions
public import Idealize.ShloMosaic.Lib.SparseCore.Quiescent
public import Idealize.ShloMosaic.Lib.SparseCore.Ops
public import Idealize.ShloMosaic.Lib.ShareLeaves
public import Idealize.ShloMosaic.Lib.WriteMode
public import Idealize.ShloMosaic.Lib.Batch
public import Idealize.ShloMosaic.Lib.Pipeline.Kit
public import Idealize.ShloMosaic.Lib.Pipeline.ValueKit.Geometry
public import Idealize.ShloMosaic.Lib.Tactic

@[expose] public section

noncomputable section

namespace Cert.Proof.Body

open Cert.KernelIdeal Cert.KernelIdeal.Gen Cert.Proof.Positions

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf sumEquiv leaf_inl leaf_inr pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UW (F : FTy → Type) : Type := WmRA nD τ sig (Elt F)
abbrev UU (F : FTy → Type) : Type := UH × (UW F × Counters)

local notation "𝕄" => MT nD τ sig (HIx 1) (Elt F) ℕ (UU F) ℕ

abbrev EH : Emb UH (MT nD τ sig (HIx 1) (Elt F) ℕ (UU F) ℕ) := embL
/-- Write mode's algebra, the middle component. -/
abbrev EW : UEmb (UW F) (UU F) := UEmb.inl.trans UEmb.inr

/-- The write-mode invariant, at some name. -/
abbrev wmOn (F : FTy → Type) : sProp (MT nD τ sig (HIx 1) (Elt F) ℕ (UU F) ℕ) := iprop(∃ ι : ℕ, wmInv (EW (F := F)) ι)

/-! ## The arrays and the values they end with -/

variable (m : (ℓ : Loc nD τ sig) → Buf (Elt F) ℓ) (ρ : Dev nD → PrngReg)

abbrev vLoc (d : Dev nD) : Loc nD τ sig := (SparseCore.T d).loc main_arg0
abbrev oLoc (d : Dev nD) : Loc nD τ sig := (SparseCore.T d).loc main_arg1
abbrev pLoc (d : Dev nD) : Loc nD τ sig := (SparseCore.T d).loc main_arg2
abbrev vrLoc (d : Dev nD) : Loc nD τ sig := (SparseCore.T d).loc main_v0_0
abbrev orLoc (d : Dev nD) : Loc nD τ sig := (SparseCore.T d).loc main_v0_1
abbrev wrLoc (d : Dev nD) : Loc nD τ sig := (SparseCore.T d).loc main_v0_2

/-- The first sixteen offsets, a lane each. -/
def offs (d : Dev nD) : IVec S16 32 :=
  fun x => m (oLoc d) (show S17.Idx from fun a => ⟨(x 0).val, by obtain rfl := Fin.eq_zero a; exact Nat.lt_of_lt_of_le (x 0).isLt (by decide)⟩)

/-- Position `n` of an array of 16384. -/
def at16 (n : ℕ) (h : n < 16384) : S16384.Idx := fun a => ⟨n, by obtain rfl := Fin.eq_zero a; exact h⟩

theorem at16_val (n : ℕ) (h : n < 16384) : ((at16 n h) 0).val = n := rfl

theorem at16_self (i : S16384.Idx) (h : (i 0).val < 16384) : at16 (i 0).val h = i := by
  funext a; obtain rfl := Fin.eq_zero a; rfl

theorem place_lt (o : IVec S16 32) (n : ℕ) (h : n < 16384) : n - lastStart o (n + 1) < 16384 := by omega

/-- The weight of position `n`: `position_weight` at how far `n` is past the last segment start at or before it. -/
def weight (d : Dev nD) (n : ℕ) : Elt F .f32 :=
  if h : n < 16384 then m (pLoc d) (at16 (n - lastStart (offs m d) (n + 1)) (place_lt _ _ h)) else m (pLoc d) (at16 0 (by decide))

/-- The weights, the third result. -/
def weights (d : Dev nD) : S16384.Idx → Elt F .f32 := fun i => weight m d (i 0).val

/-! ## Stretches of a one-dimensional array -/

/-- The positions from `a` up to `b`. -/
def span {n : ℕ} (a b : ℕ) : Finset (⟨1, ![n]⟩ : Shape).Idx := Finset.univ.filter fun i => a ≤ (i 0).val ∧ (i 0).val < b

theorem mem_span {n a b : ℕ} {i : (⟨1, ![n]⟩ : Shape).Idx} : i ∈ span a b ↔ a ≤ (i 0).val ∧ (i 0).val < b := by simp [span]

theorem span_union {n a b c : ℕ} (h : a ≤ b) (h' : b ≤ c) : (span a c : Finset (⟨1, ![n]⟩ : Shape).Idx) = span a b ∪ span b c := by
  ext i; simp only [mem_span, Finset.mem_union]; omega

theorem span_disjoint {n a b a' b' : ℕ} (h : b ≤ a' ∨ b' ≤ a) : Disjoint (span a b : Finset (⟨1, ![n]⟩ : Shape).Idx) (span a' b') := by
  rw [Finset.disjoint_left]; intro i hi hj; rw [mem_span] at hi hj; omega

theorem span_univ {n : ℕ} : (span 0 n : Finset (⟨1, ![n]⟩ : Shape).Idx) = Finset.univ := by
  ext i; simp only [mem_span, Finset.mem_univ, iff_true]; exact ⟨Nat.zero_le _, (i 0).isLt⟩

/-- A unit-stride rectangle is the stretch from its offset. -/
theorem set_rect {n : ℕ} (off size : Fin 1 → ℕ) (inb : ∀ a, off a + size a ≤ (⟨1, ![n]⟩ : Shape).size a) :
    (Rect.unit (s := ⟨1, ![n]⟩) off size inb).set = span (off 0) (off 0 + size 0) := by
  ext i
  rw [Rect.mem_set_unit, mem_span]
  exact ⟨fun h => h 0, fun h a => by obtain rfl := Fin.eq_zero a; exact h⟩

/-- The stretches of equal length cover the array. -/
theorem span_cover {n k c : ℕ} (h : k * c = n) :
    (Finset.univ : Finset (Fin k)).biUnion (fun j => (span (c * j.val) (c * j.val + c) : Finset (⟨1, ![n]⟩ : Shape).Idx)) = Finset.univ := by
  ext i
  simp only [Finset.mem_biUnion, Finset.mem_univ, true_and, iff_true]
  have hi : (i 0).val < n := (i 0).isLt
  have hc : 0 < c := by rcases Nat.eq_zero_or_pos c with rfl | h'; · omega
                        · exact h'
  refine ⟨⟨(i 0).val / c, by rw [Nat.div_lt_iff_lt_mul hc]; omega⟩, mem_span.mpr ⟨Nat.mul_div_le _ _, ?_⟩⟩
  have := Nat.lt_mul_div_succ (i 0).val hc
  rw [Nat.mul_add, Nat.mul_one] at this; exact this

theorem span_disjoint_of_ne {n k c : ℕ} (i : Fin k) (j : Fin k) (h : i ≠ j) :
    Disjoint (span (c * i.val) (c * i.val + c) : Finset (⟨1, ![n]⟩ : Shape).Idx) (span (c * j.val) (c * j.val + c)) := by
  apply span_disjoint
  rcases Nat.lt_or_gt_of_ne (Fin.val_ne_of_ne h) with h' | h'
  · left; calc c * i.val + c = c * (i.val + 1) := by ring
      _ ≤ c * j.val := Nat.mul_le_mul_left _ h'
  · right; calc c * j.val + c = c * (j.val + 1) := by ring
      _ ≤ c * i.val := Nat.mul_le_mul_left _ h'

/-- Tile `i`'s 1024 positions. -/
abbrev tileSet (i : Fin 16) : Finset S16384.Idx := span (1024 * i.val) (1024 * i.val + 1024)

/-- Task `i`'s share of what every tile reads. -/
abbrev xq (i : Fin 16) : PosShare TreeShare := leaf 4 fullShare i

/-! ## What the handshakes carry -/

abbrev vPts (d : Dev nD) : sProp 𝕄 := vLoc d ↦{fullShare} m (vLoc d)
abbrev oPts (d : Dev nD) : sProp 𝕄 := oLoc d ↦{fullShare} m (oLoc d)
abbrev pPts (d : Dev nD) : sProp 𝕄 := pLoc d ↦{fullShare} m (pLoc d)
abbrev vrPts (d : Dev nD) (f : Buf (Elt F) (vrLoc d)) : sProp 𝕄 := vrLoc d ↦{fullShare} f
abbrev wrPts (d : Dev nD) (f : Buf (Elt F) (wrLoc d)) : sProp 𝕄 := wrLoc d ↦{fullShare} f
/-- The second result in write mode at share `q`: every element to become the offset there, those of `W` written. -/
abbrev orWm (d : Dev nD) (q : PosShare TreeShare) (W : Finset S17.Idx) : sProp 𝕄 :=
  willBeTo (EW (F := F)) (orLoc d) Finset.univ q (m (orLoc d)) (fun i : S17.Idx => some (m (oLoc d) i)) W

/-- What the one call takes: the three arguments and the three results, the second in write mode. -/
def stP (d : Dev nD) : sProp 𝕄 :=
  iprop(vPts m d ∗ oPts m d ∗ pPts m d ∗ vrPts d (m (vrLoc d)) ∗ orWm m d fullShare ∅ ∗ wrPts d (m (wrLoc d)))
/-- What it brings back: the results at their values. -/
def dnP (d : Dev nD) : sProp 𝕄 :=
  iprop(vPts m d ∗ oPts m d ∗ pPts m d ∗ vrPts d (m (vLoc d)) ∗ orWm m d fullShare Finset.univ ∗ wrPts d (weights m d))
/-- What task `i` takes: its stretch of the values, its shares of the offsets, of `position_weight` and of the second
    result, its stretches of the two others. -/
def goP (d : Dev nD) (i : Fin 16) : sProp 𝕄 :=
  iprop((vLoc d ↦[tileSet i]{fullShare} m (vLoc d)) ∗ (oLoc d ↦{xq i} m (oLoc d)) ∗ (pLoc d ↦{xq i} m (pLoc d))
    ∗ (vrLoc d ↦[tileSet i]{fullShare} m (vrLoc d)) ∗ orWm m d (xq i) ∅ ∗ (wrLoc d ↦[tileSet i]{fullShare} m (wrLoc d)))
def tdP (d : Dev nD) (i : Fin 16) : sProp 𝕄 :=
  iprop((vLoc d ↦[tileSet i]{fullShare} m (vLoc d)) ∗ (oLoc d ↦{xq i} m (oLoc d)) ∗ (pLoc d ↦{xq i} m (pLoc d))
    ∗ (vrLoc d ↦[tileSet i]{fullShare} m (vLoc d)) ∗ orWm m d (xq i) Finset.univ ∗ (wrLoc d ↦[tileSet i]{fullShare} weights m d))

instance (d : Dev nD) : BI.Storable (upEmb : UEmb _ 𝕄) (stP m d) := by unfold stP; infer_instance
instance (d : Dev nD) : BI.Storable (upEmb : UEmb _ 𝕄) (dnP m d) := by unfold dnP; infer_instance
instance (d : Dev nD) (i : Fin 16) : BI.Storable (upEmb : UEmb _ 𝕄) (goP m d i) := by unfold goP; infer_instance
instance (d : Dev nD) (i : Fin 16) : BI.Storable (upEmb : UEmb _ 𝕄) (tdP m d i) := by unfold tdP; infer_instance

def P : (K (F := F)).Pay (nD := nD) (Val := Elt F) (Name := ℕ) (U := UU F) where
  st := fun q d _ => match q with | 0 => stP m d
  dn := fun q d _ => match q with | 0 => dnP m d
  go := fun q d _ i => match q with | 0 => goP m d (Fin.cast nSub_zero i)
  td := fun q d _ i => match q with | 0 => tdP m d (Fin.cast nSub_zero i)
  x := fun _ _ => wmOn F

instance P_storable : (P (F := F) m).IsStorable where
  st q d _ := match q with | 0 => (inferInstance : BI.Storable (upEmb : UEmb _ 𝕄) (stP m d))
  dn q d _ := match q with | 0 => (inferInstance : BI.Storable (upEmb : UEmb _ 𝕄) (dnP m d))
  go q d _ i := match q with | 0 => (inferInstance : BI.Storable (upEmb : UEmb _ 𝕄) (goP m d (Fin.cast nSub_zero i)))
  td q d _ i := match q with | 0 => (inferInstance : BI.Storable (upEmb : UEmb _ 𝕄) (tdP m d (Fin.cast nSub_zero i)))

/-! ## Dealing to the tiles, and joining -/

/-- A write-mode assertion at a share is its leaves' at once, each knowing the same elements written. -/
theorem willBe_leaves {ℓ : Loc nD τ sig} (I : Finset (Idx ℓ)) (f : Buf (Elt F) ℓ) (g : Tgt (Elt F) ℓ) (W : Finset (Idx ℓ)) :
    ∀ (n : ℕ) (q : PosShare TreeShare), (willBeTo (EW (F := F)) ℓ I q f g W : sProp 𝕄)
      = bigSep Finset.univ fun i : Fin (2 ^ n) => willBeTo (EW (F := F)) ℓ I (leaf n q i) f g W
  | 0, q => (bigSep_univ_of_subsingleton (0 : Fin 1) (Φ := fun i : Fin (2 ^ 0) => (willBeTo (EW (F := F)) ℓ I (leaf 0 q i) f g W : sProp 𝕄))).symm
  | n + 1, q => by
    have hs := BI.Region.held_share (ι := (wmEmb (Name := ℕ) (Lvl := ℕ) (HIx 1) (EW (F := F))).toEmb) (k := ℓ) (I := I)
      (z := fun i => Region.WB.mk (f i) (g i) (decide (i ∈ W))) (x := fun i => Region.WB.mk (f i) (g i) (decide (i ∈ W)))
      (y := fun i => Region.WB.mk (f i) (g i) (decide (i ∈ W))) (PosShare.mem_left_op_right q)
      (fun i _ => by have h := Region.WB.mem_mk_op_mk (f i) (g i) (decide (i ∈ W)) (decide (i ∈ W)); rwa [Bool.or_self] at h)
    refine (show (willBeTo (EW (F := F)) ℓ I q f g W : sProp 𝕄) = iprop(willBeTo (EW (F := F)) ℓ I q.left f g W ∗ willBeTo (EW (F := F)) ℓ I q.right f g W) from
      BI.Entails.antisymm hs.1 hs.2).trans ?_
    refine (congrArg₂ BIBase.sep (willBe_leaves I f g W n q.left) (willBe_leaves I f g W n q.right)).trans ?_
    rw [bigSep_univ_equiv (sumEquiv n) (fun i : Fin (2 ^ (n + 1)) => (willBeTo (EW (F := F)) ℓ I (leaf (n + 1) q i) f g W : sProp 𝕄)), bigSep_univ_sum]
    congr 1 <;> refine bigSep_congr fun i _ => ?_
    · rw [leaf_inl]
    · rw [leaf_inr]

end Cert.Proof.Body

end
-- ==== Proof.Steps.lean ====
/-
  One tile's gather, a step at a time: what the tile holds after `n` of its positions are gathered and `r` of its eight
  rows are on their way out (`St`), and the steps that lead from one such state to the next — reading the sixteen
  indices at `n` and their check, the gather, putting the sixteen weights, sending a row out, waiting for one.
-/
module

public import proofs.«01_k».proof.Proof.Setup

@[expose] public section

noncomputable section

namespace Cert.Proof.Body

open Cert.KernelIdeal Cert.KernelIdeal.Gen Cert.Proof.Positions

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ (UU F) ℕ

local notation "valV" => (Memref.whole main_arg0_scv : Memref Cert.KernelIdeal.sig Kind.scVector Space.hbm S16384 EltTy.i32)
local notation "offV" => (Memref.whole main_arg1_scv : Memref Cert.KernelIdeal.sig Kind.scVector Space.hbm S17 EltTy.i32)
local notation "pwV" => (Memref.whole main_arg2_scv : Memref Cert.KernelIdeal.sig Kind.scVector Space.hbm S16384 EltTy.f32)
local notation "vrV" => (Memref.whole main_v0_0_scv : Memref Cert.KernelIdeal.sig Kind.scVector Space.hbm S16384 EltTy.i32)
local notation "orV" => (Memref.whole main_v0_1_scv : Memref Cert.KernelIdeal.sig Kind.scVector Space.hbm S17 EltTy.i32)
local notation "wrV" => (Memref.whole main_v0_2_scv : Memref Cert.KernelIdeal.sig Kind.scVector Space.hbm S16384 EltTy.f32)
local notation "osV" => (Memref.whole cc0_scratch0 : Memref Cert.KernelIdeal.sig Kind.scVector Space.vmem S16 EltTy.i32)
local notation "psV" => (Memref.whole cc0_scratch1 : Memref Cert.KernelIdeal.sig Kind.scVector Space.vmem S16384 EltTy.f32)
local notation "sqV" => (Memref.whole cc0_scratch2 : Memref Cert.KernelIdeal.sig Kind.scVector Space.vmem S1024 EltTy.i32)
local notation "ouV" => (Memref.whole cc0_scratch3 : Memref Cert.KernelIdeal.sig Kind.scVector Space.vmem S1024 EltTy.f32)

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

/-! ## Reading and writing a stretch of a whole buffer -/

/-- An index of the stretch from `off`, placed in the array. -/
theorem emb_rect {n : ℕ} (off size : Fin 1 → ℕ) (inb) (x : (Rect.unit (s := ⟨1, ![n]⟩) off size inb).shape.Idx) :
    ((Rect.unit (s := ⟨1, ![n]⟩) off size inb).emb x 0).val = off 0 + (x 0).val :=
  ValueKit.rect_emb_unit_val (s := ⟨1, ![n]⟩) off size inb x 0

/-- A write through a view leaves what agrees with the payload on the view and with the old contents off it. -/
theorem write_eq {κ : Kind} (b : Ref sig κ) (r : Rect b.ty.shape) (f g : b.ty.Contents (Elt F)) (w : r.shape.Idx → Elt F b.ty.elt)
    (hin : ∀ x, g (r.emb x) = w x) (hout : ∀ i, i ∉ r.set → g i = f i) :
    ((View.whole b).slice r).write (Elt F) f w Finset.univ = g := by
  funext i
  by_cases h : i ∈ r.set
  · rw [← Rect.map_emb_univ] at h
    obtain ⟨x, -, rfl⟩ := Finset.mem_map.mp h
    exact (View.write_emb_of_mem (v := (View.whole b).slice r) f w (Finset.mem_univ x)).trans (hin x).symm
  · rw [hout i h]
    exact View.write_of_not_mem (v := (View.whole b).slice r) f w Finset.univ (by rwa [View.setOn_univ, View.set_slice_whole])

/-- The same where only the view's own elements are asked about. -/
theorem write_eq_on {κ : Kind} (b : Ref sig κ) (r : Rect b.ty.shape) (f g : b.ty.Contents (Elt F)) (w : r.shape.Idx → Elt F b.ty.elt)
    (hin : ∀ x, g (r.emb x) = w x) : ∀ i ∈ r.set, ((View.whole b).slice r).write (Elt F) f w Finset.univ i = g i := by
  intro i h
  rw [← Rect.map_emb_univ] at h
  obtain ⟨x, -, rfl⟩ := Finset.mem_map.mp h
  exact (View.write_emb_of_mem (v := (View.whole b).slice r) f w (Finset.mem_univ x)).trans (hin x).symm

/-! ## A tile's state -/

section Tile

variable (m : (ℓ : Loc nD τ sig) → Buf (Elt F) ℓ) (d : Dev nD) (L : grid0.Coords)

/-- The tile. -/
abbrev thr : Thread nD τ := V d (cV L) (jV L)
/-- Its first position. -/
abbrev base : ℕ := 1024 * (L 1).val

theorem base_le : base L + 1024 ≤ 16384 := by
  have h : (L 1).val < 16 := (L 1).isLt
  show 1024 * (L 1).val + 1024 ≤ 16384; omega

abbrev sqLoc : Loc nD τ sig := (thr d L).loc cc0_scratch2
abbrev psLoc : Loc nD τ sig := (thr d L).loc cc0_scratch1
abbrev ouLoc : Loc nD τ sig := (thr d L).loc cc0_scratch3

/-- The indices the tile gathers at. -/
def idxF : S1024.Idx → Elt F .i32 := fun i => place (offs m d) (base L) (i 0).val
/-- The weights it gathers, all of them. -/
def tgtF : S1024.Idx → Elt F .f32 := fun i => weight m d (base L + (i 0).val)
/-- The first `n` of them, over what was there. -/
def mixF (f₀ : S1024.Idx → Elt F .f32) (n : ℕ) : S1024.Idx → Elt F .f32 :=
  fun i => if (i 0).val < n then tgtF m d L i else f₀ i

/-- The sixteen indices from position `n`. -/
def idxAtN (n : ℕ) : Vec F S16 .i32 := fun x => place (offs m d) (base L) (n + (x 0).val)
/-- The sixteen weights from position `n`. -/
def tgtAtN (n : ℕ) : Vec F S16 .f32 := fun x => weight m d (base L + (n + (x 0).val))

/-- What row `r`'s copy hands back: the row of the result at the weights, the row of the buffer. -/
def rowD (r : Fin 8) : sProp 𝕄 :=
  iprop((wrLoc d ↦[span (base L + 128 * r.val) (base L + 128 * r.val + 128)]{fullShare} weights m d)
    ∗ (ouLoc d L ↦[span (128 * r.val) (128 * r.val + 128)]{fullShare} tgtF m d L))

instance (r : Fin 8) : BI.Storable (upEmb : UEmb _ 𝕄) (rowD m d L r) := by unfold rowD; infer_instance

/-- The words a row's copy counts. -/
abbrev rowN : ℕ := ((wrV).slice (Rect.unit (s := S16384) ![0] S128.size (by decide)) (fun _ => rfl)).view.dmaCredit

/-- The tile with `n` positions gathered and `r` rows sent. -/
def St (f₀ : S1024.Idx → Elt F .f32) (n r : ℕ) : sProp 𝕄 :=
  iprop((sqLoc d L ↦{fullShare} (idxF m d L : S1024.Idx → Elt F .i32)) ∗ (psLoc d L ↦{fullShare} (m (pLoc d) : S16384.Idx → Elt F .f32))
    ∗ (ouLoc d L ↦[span (128 * r) 1024]{fullShare} mixF m d L f₀ n)
    ∗ (wrLoc d ↦[span (base L + 128 * r) (base L + 1024)]{fullShare} m (wrLoc d))
    ∗ Batch countersEmb (thr d L) (.dma cc0_scratch5.sem) (default : HIx 1) rowN (rowD m d L) r 0)

variable {m d L}
variable {α : Type}
variable {Q : α → sProp (MT nD τ sig (HIx 1) (Elt F) ℕ (UU F) ℕ)}
variable {f₀ : S1024.Idx → Elt F .f32} {r : ℕ}

/-- The tile's program run to `Q`. -/
abbrev wpT (d : Dev nD) (L : grid0.Coords) {α : Type} (p : Prog (TpuEff nD τ sig (Elt F) Λ₀ (thr d L).2) α) (Q : α → sProp 𝕄) : sProp 𝕄 :=
  wp frame (wpE (defs₀ (F := F)) 𝒱₀ (thr d L) none) Set.univ p Q

/-- Every index the tile gathers at is inside `position_weight`. -/
theorem idx_lt {n : ℕ} (hn : n + 16 ≤ 1024) (x : S16.Idx) : (idxAtN m d L n x).toNat < 16384 := by
  have hx : (x 0).val < 16 := (x 0).isLt
  have hb := base_le L
  show (place _ _ _).toNat < _
  rw [place_toNat _ _ _ (by omega)]; omega

/-- Reading the sixteen indices at `n`. -/
theorem wp_ldi (n : ℕ)
    {inb : ∀ a, (![n] : Fin 1 → ℕ) a + S16.size a ≤ S1024.size a} {hl : (sqV).view.LoadsAt (Rect.unit (s := S1024) ![n] S16.size inb).toLoadRect}
    {k : Vec F S16 .i32 → Prog (TpuEff nD τ sig (Elt F) Λ₀ (thr d L).2) α} :
    St m d L f₀ n r ⊢ iprop((St m d L f₀ n r -∗ wpT d L (k (idxAtN m d L n)) Q)
      -∗ wpT d L (Prog.lift (TpuEff.load sqV (Rect.unit (s := S1024) ![n] S16.size inb).toLoadRect hl) >>= k) Q) := by
  unfold St
  iintro ⟨Hsq, Hrest⟩ Hk
  have hread : (((sqV).access (Rect.unit (s := S1024) ![n] S16.size inb)).read (Elt F) (idxF m d L : S1024.Idx → Elt F .i32)) = idxAtN m d L n := by
    funext x
    show place _ _ _ = place _ _ _
    congr 1
    exact emb_rect ![n] S16.size inb x
  iapply (wp_load_rect (defs := defs₀ (F := F)) 𝒱₀ (thr d L) none Set.univ (m := sqV) (r := Rect.unit (s := S1024) ![n] S16.size inb) (S := Finset.univ) (Finset.subset_univ _)) $$ Hsq
  iintro Hsq
  rw [hread]
  iapply Hk
  isplitl [Hsq]; · iexact Hsq
  iexact Hrest

/-- Their check. -/
theorem wp_chk (n : ℕ) (hn : n + 16 ≤ 1024)
    {chk : Vec F S16 .i32 → Prop} {dec : ∀ v, Decidable (chk v)} (hchk : ∀ v, (∀ a x, ((![v] : Fin 1 → IVec S16 32) a x).toNat < S16384.size a) → chk v)
    {k : PLift (chk (idxAtN m d L n)) → Prog (TpuEff nD τ sig (Elt F) Λ₀ (thr d L).2) α} :
    St m d L f₀ n r ⊢ iprop((∀ h, St m d L f₀ n r -∗ wpT d L (k h) Q)
      -∗ wpT d L (Prog.lift (TpuEff.assume (chk (idxAtN m d L n)) (dec (idxAtN m d L n))) >>= k) Q) := by
  iintro H Hk
  iapply (wp_assume 𝒱₀ (thr d L) none Set.univ (hchk _ fun a x => by obtain rfl := Fin.eq_zero a; exact idx_lt hn x))
  ispecialize Hk $$ %_
  iapply Hk; iexact H

/-- Reading the sixteen indices at `n`, and their check. -/
theorem wp_idx (n : ℕ) (hn : n + 16 ≤ 1024)
    {inb : ∀ a, (![n] : Fin 1 → ℕ) a + S16.size a ≤ S1024.size a} {hl : (sqV).view.LoadsAt (Rect.unit (s := S1024) ![n] S16.size inb).toLoadRect}
    {chk : Vec F S16 .i32 → Prop} {dec : ∀ v, Decidable (chk v)} (hchk : ∀ v, (∀ a x, ((![v] : Fin 1 → IVec S16 32) a x).toNat < S16384.size a) → chk v)
    {k : (v : Vec F S16 .i32) → PLift (chk v) → Prog (TpuEff nD τ sig (Elt F) Λ₀ (thr d L).2) α} :
    St m d L f₀ n r ⊢ iprop((∀ h, St m d L f₀ n r -∗ wpT d L (k (idxAtN m d L n) h) Q)
      -∗ wpT d L (Prog.lift (TpuEff.load sqV (Rect.unit (s := S1024) ![n] S16.size inb).toLoadRect hl) >>= fun v =>
          Prog.lift (TpuEff.assume (chk v) (dec v)) >>= fun h => k v h) Q) := by
  iintro H Hk
  iapply (wp_ldi n) $$ H
  iintro H
  iapply (wp_chk n hn hchk) $$ H
  iexact Hk

/-- The gather of the sixteen weights at `n`. -/
theorem wp_gat (n : ℕ) (hn : n + 16 ≤ 1024)
    {h : ∀ a x, ((![idxAtN m d L n] : Fin 1 → IVec S16 32) a x).toNat < S16384.size a} {hl : (psV).view.Loads}
    {k : Vec F S16 .f32 → Prog (TpuEff nD τ sig (Elt F) Λ₀ (thr d L).2) α} :
    St m d L f₀ n r ⊢ iprop((St m d L f₀ n r -∗ wpT d L (k (tgtAtN m d L n)) Q)
      -∗ wpT d L (SparseCore.vectorLoadIdx psV ![idxAtN m d L n] h hl >>= k) Q) := by
  unfold St
  iintro ⟨Hsq, Hps, Hrest⟩ Hk
  have hb := base_le L
  have hread : loadIdx (((psV).access (.whole S16384)).read (Elt F) (m (pLoc d) : S16384.Idx → Elt F .f32)) ![idxAtN m d L n] h = tgtAtN m d L n := by
    funext x
    have hx : (x 0).val < 16 := (x 0).isLt
    have hlt : base L + (n + (x 0).val) < 16384 := by omega
    show m (pLoc d) ((Rect.whole S16384).emb (idxAt ![idxAtN m d L n] h x)) = weight m d (base L + (n + (x 0).val))
    unfold weight
    rw [dif_pos hlt]
    congr 1
    funext a; obtain rfl := Fin.eq_zero a
    apply Fin.ext
    refine (emb_rect (n := 16384) (fun _ => 0) S16384.size _ _).trans ?_
    rw [Nat.zero_add]
    show (place _ _ _).toNat = _ - _
    rw [place_toNat _ _ _ (by omega)]
  iapply (SparseCore.wp_vectorLoadIdx (defs := defs₀ (F := F)) 𝒱₀ (thr d L) none Set.univ (s := S16384) (base := psV)
      (f := (m (pLoc d) : S16384.Idx → Elt F .f32)) (S := Finset.univ) (q := fullShare) (Finset.subset_univ _)) $$ Hps
  iintro Hps
  rw [hread]
  iapply Hk
  isplitl [Hsq]; · iexact Hsq
  isplitl [Hps]; · iexact Hps
  iexact Hrest

/-- The stretch of the buffer at `n`, inside what the tile still holds of it. -/
theorem put_sub (n : ℕ) (hn : n + 16 ≤ 1024) (hr : 128 * r ≤ n) (inb : ∀ a, (![n] : Fin 1 → ℕ) a + S16.size a ≤ S1024.size a) :
    (((ouV).access (Rect.unit (s := S1024) ![n] S16.size inb)).set : Finset S1024.Idx) ⊆ span (128 * r) 1024 := by
  rw [show (((ouV).access (Rect.unit (s := S1024) ![n] S16.size inb)).set : Finset S1024.Idx) = span n (n + 16) from
    (View.set_slice_whole _ _).trans (set_rect (n := 1024) ![n] S16.size inb)]
  intro i hi; rw [mem_span] at hi ⊢; omega

/-- Reading what the buffer holds at `n`. -/
theorem wp_ldo (n : ℕ) (hn : n + 16 ≤ 1024) (hr : 128 * r ≤ n)
    {inb : ∀ a, (![n] : Fin 1 → ℕ) a + S16.size a ≤ S1024.size a} {hl : (ouV).view.LoadsAt (Rect.unit (s := S1024) ![n] S16.size inb).toLoadRect}
    {k : Vec F S16 .f32 → Prog (TpuEff nD τ sig (Elt F) Λ₀ (thr d L).2) α} :
    St m d L f₀ n r ⊢ iprop((∀ v, St m d L f₀ n r -∗ wpT d L (k v) Q)
      -∗ wpT d L (Prog.lift (TpuEff.load ouV (Rect.unit (s := S1024) ![n] S16.size inb).toLoadRect hl) >>= k) Q) := by
  unfold St
  iintro ⟨Hsq, Hps, Hou, Hrest⟩ Hk
  iapply (wp_load_rect (defs := defs₀ (F := F)) 𝒱₀ (thr d L) none Set.univ (m := ouV) (r := Rect.unit (s := S1024) ![n] S16.size inb) (S := span (128 * r) 1024)
    (put_sub n hn hr inb)) $$ Hou
  iintro Hou
  ispecialize Hk $$ %_
  iapply Hk
  isplitl [Hsq]; · iexact Hsq
  isplitl [Hps]; · iexact Hps
  isplitl [Hou]; · iexact Hou
  iexact Hrest

/-- Putting the sixteen weights there. -/
theorem wp_sto (n : ℕ) (hn : n + 16 ≤ 1024) (hr : 128 * r ≤ n)
    {inb : ∀ a, (![n] : Fin 1 → ℕ) a + S16.size a ≤ S1024.size a}
    {hx : ((ouV).access (Rect.unit (s := S1024) ![n] S16.size inb)).Stores Finset.univ} {hm}
    {k : PUnit → Prog (TpuEff nD τ sig (Elt F) Λ₀ (thr d L).2) α} :
    St m d L f₀ n r ⊢ iprop((St m d L f₀ (n + 16) r -∗ wpT d L (k ⟨⟩) Q)
      -∗ wpT d L (Prog.lift (TpuEff.store ouV (Rect.unit (s := S1024) ![n] S16.size inb) (tgtAtN m d L n) Finset.univ hx hm) >>= k) Q) := by
  unfold St
  iintro ⟨Hsq, Hps, Hou, Hrest⟩ Hk
  have hw : (((ouV).access (Rect.unit (s := S1024) ![n] S16.size inb)).write (Elt F) (mixF m d L f₀ n) (tgtAtN m d L n) Finset.univ : S1024.Idx → Elt F .f32)
      = mixF m d L f₀ (n + 16) := by
    refine write_eq cc0_scratch3 (Rect.unit (s := S1024) ![n] S16.size inb) _ _ _ (fun x => ?_) fun i hi => ?_
    · have e : ((Rect.unit (s := S1024) ![n] S16.size inb).emb x 0).val = n + (x 0).val := emb_rect (n := 1024) ![n] S16.size inb x
      have hx : (x 0).val < 16 := (x 0).isLt
      show (if ((Rect.unit (s := S1024) ![n] S16.size inb).emb x 0).val < n + 16 then _ else _) = _
      rw [if_pos (by omega)]
      show weight m d (base L + ((Rect.unit (s := S1024) ![n] S16.size inb).emb x 0).val) = _
      rw [e]; rfl
    · rw [set_rect (n := 1024) ![n] S16.size inb, mem_span] at hi
      have hi' : ¬(n ≤ (i 0).val ∧ (i 0).val < n + 16) := hi
      show (if (i 0).val < n + 16 then _ else _) = if (i 0).val < n then _ else _
      by_cases h : (i 0).val < n
      · rw [if_pos h, if_pos (by omega)]
      · rw [if_neg h, if_neg (by omega)]
  iapply (wp_store (defs := defs₀ (F := F)) 𝒱₀ (thr d L) none Set.univ (m := ouV) (r := Rect.unit (s := S1024) ![n] S16.size inb) (S := span (128 * r) 1024)
    (put_sub n hn hr inb)) $$ Hou
  iintro Hou
  rw [hw]
  iapply Hk
  isplitl [Hsq]; · iexact Hsq
  isplitl [Hps]; · iexact Hps
  isplitl [Hou]; · iexact Hou
  iexact Hrest

/-- Putting them in the buffer, at `n`. -/
theorem wp_put (n : ℕ) (hn : n + 16 ≤ 1024) (hr : 128 * r ≤ n)
    {inb : ∀ a, (![n] : Fin 1 → ℕ) a + S16.size a ≤ S1024.size a} {hl : (ouV).view.LoadsAt (Rect.unit (s := S1024) ![n] S16.size inb).toLoadRect}
    {hx : ((ouV).access (Rect.unit (s := S1024) ![n] S16.size inb)).Stores Finset.univ} {hm}
    {k : PUnit → Prog (TpuEff nD τ sig (Elt F) Λ₀ (thr d L).2) α} :
    St m d L f₀ n r ⊢ iprop((St m d L f₀ (n + 16) r -∗ wpT d L (k ⟨⟩) Q)
      -∗ wpT d L (Prog.lift (TpuEff.load ouV (Rect.unit (s := S1024) ![n] S16.size inb).toLoadRect hl) >>= fun _ =>
          Prog.lift (TpuEff.store ouV (Rect.unit (s := S1024) ![n] S16.size inb) (tgtAtN m d L n) Finset.univ hx hm) >>= k) Q) := by
  iintro H Hk
  iapply (wp_ldo n hn hr) $$ H
  iintro %_ H
  iapply (wp_sto n hn hr) $$ H
  iexact Hk

/-- A part's end. -/
theorem wp_done {a : α} : Q a ⊢ wpT d L (pure a) Q := by
  show _ ⊢ wp _ _ _ (pure a) Q
  rw [wp_pure]
  exact BI.fupd_intro

/-- Sixteen positions from `n`: their indices, the check, the gather, the weights put. -/
theorem wp_group (n : ℕ) (hn : n + 16 ≤ 1024) (hr : 128 * r ≤ n)
    {inb : ∀ a, (![n] : Fin 1 → ℕ) a + S16.size a ≤ S1024.size a} {hls : (sqV).view.LoadsAt (Rect.unit (s := S1024) ![n] S16.size inb).toLoadRect}
    {chk : Vec F S16 .i32 → Prop} {dec : ∀ v, Decidable (chk v)} (hchk : ∀ v, (∀ a x, ((![v] : Fin 1 → IVec S16 32) a x).toNat < S16384.size a) → chk v)
    {hi : ∀ v, chk v → ∀ a x, ((![v] : Fin 1 → IVec S16 32) a x).toNat < S16384.size a} {hlp : (psV).view.Loads}
    {hl : (ouV).view.LoadsAt (Rect.unit (s := S1024) ![n] S16.size inb).toLoadRect}
    {hx : ((ouV).access (Rect.unit (s := S1024) ![n] S16.size inb)).Stores Finset.univ} {hm}
    {k : PUnit → Prog (TpuEff nD τ sig (Elt F) Λ₀ (thr d L).2) α} :
    St m d L f₀ n r ⊢ iprop((St m d L f₀ (n + 16) r -∗ wpT d L (k ⟨⟩) Q)
      -∗ wpT d L (Prog.lift (TpuEff.load sqV (Rect.unit (s := S1024) ![n] S16.size inb).toLoadRect hls) >>= fun v =>
          Prog.lift (TpuEff.assume (chk v) (dec v)) >>= fun h => SparseCore.vectorLoadIdx psV ![v] (hi v h.down) hlp >>= fun w =>
          Prog.lift (TpuEff.load ouV (Rect.unit (s := S1024) ![n] S16.size inb).toLoadRect hl) >>= fun _ =>
          Prog.lift (TpuEff.store ouV (Rect.unit (s := S1024) ![n] S16.size inb) w Finset.univ hx hm) >>= k) Q) := by
  iintro H Hk
  iapply (wp_idx n hn hchk) $$ H
  iintro %h H
  iapply (wp_gat n hn) $$ H
  iintro H
  iapply (wp_put n hn hr) $$ H
  iintro H
  iapply Hk; iexact H

/-- Sending row `r` out, once its positions are gathered. -/
theorem wp_row (n : ℕ) (hn : n = 128 * r + 128) (hr : r < 8)
    {off : Fin 1 → ℕ} (hoff : off 0 = base L + 128 * r) {inbw : ∀ a, off a + S128.size a ≤ S16384.size a}
    {offs : Fin 1 → ℕ} (hoffs : offs 0 = 128 * r) {inb : ∀ a, offs a + S128.size a ≤ S1024.size a}
    {hsrc} {hdst} {hsem}
    {k : PUnit → Prog (TpuEff nD τ sig (Elt F) Λ₀ (thr d L).2) α} :
    St m d L f₀ n r ⊢ iprop((St m d L f₀ n (r + 1) -∗ wpT d L (k ⟨⟩) Q)
      -∗ wpT d L (Prog.lift (TpuEff.enqueueDma ((ouV).slice (Rect.unit (s := S1024) offs S128.size inb) (fun _ => rfl))
          (.here ((wrV).slice (Rect.unit (s := S16384) off S128.size inbw) (fun _ => rfl))) (.dma cc0_scratch5.sem) hsrc hdst hsem) >>= k) Q) := by
  subst hn
  unfold St
  iintro ⟨Hsq, Hps, Hou, Hwr, HB⟩ Hk
  have hsetO : (((ouV).slice (Rect.unit (s := S1024) offs S128.size inb) (fun _ => rfl)).view.set : Finset S1024.Idx) = span (128 * r) (128 * r + 128) :=
    (View.set_slice_whole _ _).trans ((set_rect (n := 1024) offs S128.size inb).trans (by rw [hoffs]; rfl))
  have hsetW : (((wrV).slice (Rect.unit (s := S16384) off S128.size inbw) (fun _ => rfl)).view.set : Finset S16384.Idx)
      = span (base L + 128 * r) (base L + 128 * r + 128) :=
    (View.set_slice_whole _ _).trans ((set_rect (n := 16384) off S128.size inbw).trans (by rw [hoff]; rfl))
  rw [span_union (n := 1024) (a := 128 * r) (b := 128 * r + 128) (c := 1024) (by omega) (by omega),
    span_union (n := 16384) (a := base L + 128 * r) (b := base L + 128 * r + 128) (c := base L + 1024) (by omega) (by omega)]
  ihave Hou := (pointsTo_union (span_disjoint (n := 1024) (.inl le_rfl))).1 $$ Hou
  ihave Hwr := (pointsTo_union (span_disjoint (n := 16384) (.inl le_rfl))).1 $$ Hwr
  icases Hou with ⟨HouR, Hou⟩
  icases Hwr with ⟨HwrR, Hwr⟩
  iapply (wp_dmaBatch countersEmb (defs := defs₀ (F := F)) 𝒱₀ (thr d L) none
      (src := (ouV).slice (Rect.unit (s := S1024) offs S128.size inb) (fun _ => rfl)) (via := .same)
      (dst := (wrV).slice (Rect.unit (s := S16384) off S128.size inbw) (fun _ => rfl)) (sm := .dma cc0_scratch5.sem)
      (q := fullShare) (fs := mixF m d L f₀ (128 * r + 128)) (Sd := span (base L + 128 * r) (base L + 128 * r + 128))
      (fd := m (wrLoc d)) (D := rowD m d L) (default : HIx 1) rowN rfl (le_of_eq hsetW) hr (Nat.zero_le _) ?_) $$ [HouR HwrR HB]
  · unfold rowD
    rw [hsetO]
    refine BIClass.sep_mono (Entails.of_eq (pointsTo_congr fun i hi => ?_)) (Entails.of_eq (pointsTo_congr fun i hi => ?_))
    · refine write_eq_on main_v0_2_scv (Rect.unit (s := S16384) off S128.size inbw) (m (wrLoc d)) (weights m d) _ (fun x => ?_) i
        (by rw [set_rect (n := 16384) off S128.size inbw, hoff]; exact hi)
      have hx : (x 0).val < 128 := (x 0).isLt
      have e : ((Rect.unit (s := S16384) off S128.size inbw).emb x 0).val = off 0 + (x 0).val := emb_rect (n := 16384) off S128.size inbw x
      have e' : ((Rect.unit (s := S1024) offs S128.size inb).emb x 0).val = offs 0 + (x 0).val := emb_rect (n := 1024) offs S128.size inb x
      show weight m d ((Rect.unit (s := S16384) off S128.size inbw).emb x 0).val
        = if ((Rect.unit (s := S1024) offs S128.size inb).emb x 0).val < 128 * r + 128 then
            weight m d (base L + ((Rect.unit (s := S1024) offs S128.size inb).emb x 0).val) else _
      rw [if_pos (by omega)]
      congr 1; omega
    · rw [mem_span] at hi
      exact if_pos hi.2
  · rw [hsetO]
    isplitl [HouR]; · iexact HouR
    isplitl [HwrR]; · iexact HwrR
    iexact HB
  iintro HB
  iapply Hk
  isplitl [Hsq]; · iexact Hsq
  isplitl [Hps]; · iexact Hps
  isplitl [Hou]; · iexact Hou
  isplitl [Hwr]; · iexact Hwr
  iexact HB

end Tile

end Cert.Proof.Body

end
-- ==== Proof.Parts.lean ====
/-
  The tile's gather, part by part: each printed part of the body from the state the part before it leaves (`St`).
-/
module

public import proofs.«01_k».proof.Proof.Steps
public import proofs.«01_k».proof.Proof.Gen.KernelIdeal.Skeleton

@[expose] public section

noncomputable section

namespace Cert.Proof.Body

open Cert.KernelIdeal Cert.KernelIdeal.Gen Cert.Proof.Positions

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ (UU F) ℕ

local notation "valV" => (Memref.whole main_arg0_scv : Memref Cert.KernelIdeal.sig Kind.scVector Space.hbm S16384 EltTy.i32)
local notation "offV" => (Memref.whole main_arg1_scv : Memref Cert.KernelIdeal.sig Kind.scVector Space.hbm S17 EltTy.i32)
local notation "pwV" => (Memref.whole main_arg2_scv : Memref Cert.KernelIdeal.sig Kind.scVector Space.hbm S16384 EltTy.f32)
local notation "vrV" => (Memref.whole main_v0_0_scv : Memref Cert.KernelIdeal.sig Kind.scVector Space.hbm S16384 EltTy.i32)
local notation "orV" => (Memref.whole main_v0_1_scv : Memref Cert.KernelIdeal.sig Kind.scVector Space.hbm S17 EltTy.i32)
local notation "wrV" => (Memref.whole main_v0_2_scv : Memref Cert.KernelIdeal.sig Kind.scVector Space.hbm S16384 EltTy.f32)
local notation "osV" => (Memref.whole cc0_scratch0 : Memref Cert.KernelIdeal.sig Kind.scVector Space.vmem S16 EltTy.i32)
local notation "psV" => (Memref.whole cc0_scratch1 : Memref Cert.KernelIdeal.sig Kind.scVector Space.vmem S16384 EltTy.f32)
local notation "sqV" => (Memref.whole cc0_scratch2 : Memref Cert.KernelIdeal.sig Kind.scVector Space.vmem S1024 EltTy.i32)
local notation "ouV" => (Memref.whole cc0_scratch3 : Memref Cert.KernelIdeal.sig Kind.scVector Space.vmem S1024 EltTy.f32)

section Tile

variable {m : (ℓ : Loc nD τ sig) → Buf (Elt F) ℓ} {d : Dev nD} {L : grid0.Coords}
variable {f₀ : S1024.Idx → Elt F .f32}

/-- A printed offset of the tile's core, `0` of one, at the axis. -/
theorem off_at {o : Fin 1 → ℕ} {k : ℕ} (h : o = ![1024 * (L 1).val + 1024 * (L 0).val + k]) : o 0 = base L + k := by
  have h0 : (L 0).val < 1 := (L 0).isLt
  rw [h]
  show 1024 * (L 1).val + 1024 * (L 0).val + k = 1024 * (L 1).val + k
  omega

set_option maxHeartbeats 4000000 in
/-- The eighth to fifteenth groups; the first row sent. -/
theorem wp_part3 {v2 : BitVec 32} {h : k0_chk9 (idxAtN m d L 112)} {Q : Vec F S16 .f32 → sProp (MT nD τ sig (HIx 1) (Elt F) ℕ (UU F) ℕ)} :
    St m d L f₀ 112 0 ⊢ iprop((St m d L f₀ 224 1 -∗ Q (tgtAtN m d L 224))
      -∗ wpT d L (k0_part3 L valV (Memref.isWhole_whole _) offV (Memref.isWhole_whole _) pwV (Memref.isWhole_whole _) vrV (Memref.isWhole_whole _) orV (Memref.isWhole_whole _) wrV (Memref.isWhole_whole _)
      osV (Memref.isWhole_whole _) psV (Memref.isWhole_whole _) sqV (Memref.isWhole_whole _) ouV (Memref.isWhole_whole _) cc0_scratch4 cc0_scratch5 cc0_scratch6 cc0_scratch7 cc0_scoped0 v2 (idxAtN m d L 112) h) Q) := by
  simp only [k0_part3_eq_skeleton]; unfold k0_part3_skel
  iintro H Hk
  iapply (wp_gat 112 (by omega)) $$ H; iintro H
  iapply (wp_put 112 (by omega) (by omega)) $$ H; iintro H
  iapply (wp_row 128 (by omega) (by omega) (off_at (k0_off4_eq L)) rfl) $$ H; iintro H
  iterate 6 (iapply (wp_group _ (by omega) (by omega) (fun _ h => h)) $$ H; iintro H)
  iapply (wp_idx 224 (by omega) (fun _ h => h)) $$ H; iintro %h H
  iapply (wp_gat 224 (by omega)) $$ H; iintro H
  iapply wp_done
  iapply Hk; iexact H

set_option maxHeartbeats 4000000 in
/-- The fifteenth to twenty-second groups; the second row sent. -/
theorem wp_part4 {v2 : BitVec 32} {Q : PUnit → sProp (MT nD τ sig (HIx 1) (Elt F) ℕ (UU F) ℕ)} :
    St m d L f₀ 224 1 ⊢ iprop((St m d L f₀ 352 2 -∗ Q ⟨⟩)
      -∗ wpT d L (k0_part4 L valV (Memref.isWhole_whole _) offV (Memref.isWhole_whole _) pwV (Memref.isWhole_whole _) vrV (Memref.isWhole_whole _) orV (Memref.isWhole_whole _) wrV (Memref.isWhole_whole _)
      osV (Memref.isWhole_whole _) psV (Memref.isWhole_whole _) sqV (Memref.isWhole_whole _) ouV (Memref.isWhole_whole _) cc0_scratch4 cc0_scratch5 cc0_scratch6 cc0_scratch7 cc0_scoped0 v2 (tgtAtN m d L 224)) Q) := by
  simp only [k0_part4_eq_skeleton]; unfold k0_part4_skel
  iintro H Hk
  iapply (wp_put 224 (by omega) (by omega)) $$ H; iintro H
  iterate 1 (iapply (wp_group _ (by omega) (by omega) (fun _ h => h)) $$ H; iintro H)
  iapply (wp_row 256 (by omega) (by omega) (off_at (k0_off5_eq L)) rfl) $$ H; iintro H
  iterate 6 (iapply (wp_group _ (by omega) (by omega) (fun _ h => h)) $$ H; iintro H)
  iapply wp_done
  iapply Hk; iexact H

set_option maxHeartbeats 4000000 in
/-- The twenty-third to thirtieth groups; the third row sent. -/
theorem wp_part5 {v2 : BitVec 32} {Q : Vec F S16 .i32 → sProp (MT nD τ sig (HIx 1) (Elt F) ℕ (UU F) ℕ)} :
    St m d L f₀ 352 2 ⊢ iprop((St m d L f₀ 464 3 -∗ Q (idxAtN m d L 464))
      -∗ wpT d L (k0_part5 L valV (Memref.isWhole_whole _) offV (Memref.isWhole_whole _) pwV (Memref.isWhole_whole _) vrV (Memref.isWhole_whole _) orV (Memref.isWhole_whole _) wrV (Memref.isWhole_whole _)
      osV (Memref.isWhole_whole _) psV (Memref.isWhole_whole _) sqV (Memref.isWhole_whole _) ouV (Memref.isWhole_whole _) cc0_scratch4 cc0_scratch5 cc0_scratch6 cc0_scratch7 cc0_scoped0 v2) Q) := by
  simp only [k0_part5_eq_skeleton]; unfold k0_part5_skel
  iintro H Hk
  iterate 2 (iapply (wp_group _ (by omega) (by omega) (fun _ h => h)) $$ H; iintro H)
  iapply (wp_row 384 (by omega) (by omega) (off_at (k0_off6_eq L)) rfl) $$ H; iintro H
  iterate 5 (iapply (wp_group _ (by omega) (by omega) (fun _ h => h)) $$ H; iintro H)
  iapply (wp_ldi 464) $$ H; iintro H
  iapply wp_done
  iapply Hk; iexact H

set_option maxHeartbeats 4000000 in
/-- The thirtieth to thirty-seventh groups; the fourth row sent. -/
theorem wp_part6 {v2 : BitVec 32} {Q : Vec F S16 .f32 → sProp (MT nD τ sig (HIx 1) (Elt F) ℕ (UU F) ℕ)} :
    St m d L f₀ 464 3 ⊢ iprop((St m d L f₀ 576 4 -∗ Q (tgtAtN m d L 576))
      -∗ wpT d L (k0_part6 L valV (Memref.isWhole_whole _) offV (Memref.isWhole_whole _) pwV (Memref.isWhole_whole _) vrV (Memref.isWhole_whole _) orV (Memref.isWhole_whole _) wrV (Memref.isWhole_whole _)
      osV (Memref.isWhole_whole _) psV (Memref.isWhole_whole _) sqV (Memref.isWhole_whole _) ouV (Memref.isWhole_whole _) cc0_scratch4 cc0_scratch5 cc0_scratch6 cc0_scratch7 cc0_scoped0 v2 (idxAtN m d L 464)) Q) := by
  simp only [k0_part6_eq_skeleton]; unfold k0_part6_skel
  iintro H Hk
  iapply (wp_chk 464 (by omega) (fun _ h => h)) $$ H; iintro %h H
  iapply (wp_gat 464 (by omega)) $$ H; iintro H
  iapply (wp_put 464 (by omega) (by omega)) $$ H; iintro H
  iterate 2 (iapply (wp_group _ (by omega) (by omega) (fun _ h => h)) $$ H; iintro H)
  iapply (wp_row 512 (by omega) (by omega) (off_at (k0_off7_eq L)) rfl) $$ H; iintro H
  iterate 4 (iapply (wp_group _ (by omega) (by omega) (fun _ h => h)) $$ H; iintro H)
  iapply (wp_idx 576 (by omega) (fun _ h => h)) $$ H; iintro %h H
  iapply (wp_gat 576 (by omega) (hl := View.loads_vmem h_S16384) (k := pure)) $$ H; iintro H
  iapply wp_done
  iapply Hk; iexact H

set_option maxHeartbeats 4000000 in
/-- The thirty-seventh to forty-fourth groups; the fifth row sent. -/
theorem wp_part7 {v2 : BitVec 32} {Q : Vec F S16 .f32 → sProp (MT nD τ sig (HIx 1) (Elt F) ℕ (UU F) ℕ)} :
    St m d L f₀ 576 4 ⊢ iprop((St m d L f₀ 688 5 -∗ Q (tgtAtN m d L 688))
      -∗ wpT d L (k0_part7 L valV (Memref.isWhole_whole _) offV (Memref.isWhole_whole _) pwV (Memref.isWhole_whole _) vrV (Memref.isWhole_whole _) orV (Memref.isWhole_whole _) wrV (Memref.isWhole_whole _)
      osV (Memref.isWhole_whole _) psV (Memref.isWhole_whole _) sqV (Memref.isWhole_whole _) ouV (Memref.isWhole_whole _) cc0_scratch4 cc0_scratch5 cc0_scratch6 cc0_scratch7 cc0_scoped0 v2 (tgtAtN m d L 576)) Q) := by
  simp only [k0_part7_eq_skeleton]; unfold k0_part7_skel
  iintro H Hk
  iapply (wp_put 576 (by omega) (by omega)) $$ H; iintro H
  iterate 3 (iapply (wp_group _ (by omega) (by omega) (fun _ h => h)) $$ H; iintro H)
  iapply (wp_row 640 (by omega) (by omega) (off_at (k0_off8_eq L)) rfl) $$ H; iintro H
  iterate 3 (iapply (wp_group _ (by omega) (by omega) (fun _ h => h)) $$ H; iintro H)
  iapply (wp_idx 688 (by omega) (fun _ h => h)) $$ H; iintro %h H
  iapply (wp_gat 688 (by omega)) $$ H; iintro H
  iapply (wp_ldo 688 (by omega) (by omega)) $$ H; iintro %_ H
  iapply wp_done
  iapply Hk; iexact H

set_option maxHeartbeats 4000000 in
/-- The forty-fourth to fifty-first groups; the sixth row sent. -/
theorem wp_part8 {v2 : BitVec 32} {Q : PUnit → sProp (MT nD τ sig (HIx 1) (Elt F) ℕ (UU F) ℕ)} :
    St m d L f₀ 688 5 ⊢ iprop((St m d L f₀ 816 6 -∗ Q ⟨⟩)
      -∗ wpT d L (k0_part8 L valV (Memref.isWhole_whole _) offV (Memref.isWhole_whole _) pwV (Memref.isWhole_whole _) vrV (Memref.isWhole_whole _) orV (Memref.isWhole_whole _) wrV (Memref.isWhole_whole _)
      osV (Memref.isWhole_whole _) psV (Memref.isWhole_whole _) sqV (Memref.isWhole_whole _) ouV (Memref.isWhole_whole _) cc0_scratch4 cc0_scratch5 cc0_scratch6 cc0_scratch7 cc0_scoped0 v2 (tgtAtN m d L 688)) Q) := by
  simp only [k0_part8_eq_skeleton]; unfold k0_part8_skel
  iintro H Hk
  iapply (wp_sto 688 (by omega) (by omega)) $$ H; iintro H
  iterate 4 (iapply (wp_group _ (by omega) (by omega) (fun _ h => h)) $$ H; iintro H)
  iapply (wp_row 768 (by omega) (by omega) (off_at (k0_off9_eq L)) rfl) $$ H; iintro H
  iterate 3 (iapply (wp_group _ (by omega) (by omega) (fun _ h => h)) $$ H; iintro H)
  iapply wp_done
  iapply Hk; iexact H

set_option maxHeartbeats 4000000 in
/-- The fifty-second to fifty-ninth groups; the seventh row sent. -/
theorem wp_part9 {v2 : BitVec 32} {Q : (Σ' (v240 : Vec F S16 .i32), k0_chk60 v240) → sProp (MT nD τ sig (HIx 1) (Elt F) ℕ (UU F) ℕ)} :
    St m d L f₀ 816 6 ⊢ iprop((∀ h, St m d L f₀ 928 7 -∗ Q ⟨idxAtN m d L 928, h⟩)
      -∗ wpT d L (k0_part9 L valV (Memref.isWhole_whole _) offV (Memref.isWhole_whole _) pwV (Memref.isWhole_whole _) vrV (Memref.isWhole_whole _) orV (Memref.isWhole_whole _) wrV (Memref.isWhole_whole _)
      osV (Memref.isWhole_whole _) psV (Memref.isWhole_whole _) sqV (Memref.isWhole_whole _) ouV (Memref.isWhole_whole _) cc0_scratch4 cc0_scratch5 cc0_scratch6 cc0_scratch7 cc0_scoped0 v2) Q) := by
  simp only [k0_part9_eq_skeleton]; unfold k0_part9_skel
  iintro H Hk
  iterate 5 (iapply (wp_group _ (by omega) (by omega) (fun _ h => h)) $$ H; iintro H)
  iapply (wp_row 896 (by omega) (by omega) (off_at (k0_off10_eq L)) rfl) $$ H; iintro H
  iterate 2 (iapply (wp_group _ (by omega) (by omega) (fun _ h => h)) $$ H; iintro H)
  iapply (wp_idx 928 (by omega) (fun _ h => h)) $$ H; iintro %h H
  iapply wp_done
  ispecialize Hk $$ %h.down
  iapply Hk; iexact H

/-! ## The last part, and the rows' waits -/

variable {O : CellTallies nD τ sig (HIx 1)} {W : Waits sig (HIx 1)}

variable (d L O W) in
/-- What the tile owes, its waits since the start all its own. -/
def Ow : sProp (MT nD τ sig (HIx 1) (Elt F) ℕ (UU F) ℕ) :=
  iprop(∃ W', ⌜∀ p ∈ W', p ∈ W ∨ p.2 = none⌝ ∗ owes (thr d L) O W')

variable (m d L O W) in
/-- Every row sent and `u` waited for. -/
def Wt (u : ℕ) : sProp (MT nD τ sig (HIx 1) (Elt F) ℕ (UU F) ℕ) :=
  iprop(Batch countersEmb (thr d L) (.dma cc0_scratch5.sem) (default : HIx 1) rowN (rowD m d L) 8 (u * rowN) ∗ Ow d L O W)

theorem rowN_pos : 0 < rowN := by decide

/-- A wait for a row, not the last. -/
theorem wp_wrow (u : ℕ) (hu : u + 1 < 8) {off : Fin 1 → ℕ} {inbw : ∀ a, off a + S128.size a ≤ S16384.size a}
    {offs : Fin 1 → ℕ} {inb : ∀ a, offs a + S128.size a ≤ S1024.size a} {hsrc} {hdst} {α : Type}
    {k : PUnit → Prog (TpuEff nD τ sig (Elt F) Λ₀ (thr d L).2) α} {Q : α → sProp (MT nD τ sig (HIx 1) (Elt F) ℕ (UU F) ℕ)} :
    iprop(MayWaits (thr d L) (default : HIx 1) O ∗ Wt m d L O W u) ⊢ iprop((Wt m d L O W (u + 1) -∗ wpT d L (k ⟨⟩) Q)
      -∗ wpT d L (Prog.lift (TpuEff.waitDma2 cc0_scratch5.sem ((ouV).slice (Rect.unit (s := S1024) offs S128.size inb) (fun _ => rfl))
          ((wrV).slice (Rect.unit (s := S16384) off S128.size inbw) (fun _ => rfl)) hsrc hdst) >>= k) Q) := by
  unfold Wt Ow
  iintro ⟨#Hmw, HB, %W', %hW, HO⟩ Hk
  have hlt : u * rowN + rowN < rowN * 8 := by
    have h := Nat.mul_lt_mul_of_pos_right hu rowN_pos
    rw [Nat.add_mul, Nat.one_mul] at h; rwa [Nat.mul_comm rowN 8]
  iapply (wp_waitBatchO countersEmb (defs := defs₀ (F := F)) 𝒱₀ (thr d L) none (default : HIx 1)
    (rfl : ((wrV).slice (Rect.unit (s := S16384) off S128.size inbw) (fun _ => rfl)).view.dmaCredit = rowN) hlt) $$ [HB HO]
  · isplitl [HB]; · iexact HB
    isplitl [HO]; · iexact HO
    iapply (MayWaits.elim (SemLoc.dma cc0_scratch5.sem)) $$ Hmw
  iintro ⟨HB, HO⟩
  iapply Hk
  isplitl [HB]
  · rw [Nat.add_mul, Nat.one_mul]; iexact HB
  iexists _; isplitr
  swap; · iexact HO
  ipureintro; intro p hp
  rcases Finset.mem_insert.mp hp with hp | hp
  · exact .inr (hp ▸ rfl)
  · exact hW p hp

/-- The last one: every row's piece back. -/
theorem wp_wlast {off : Fin 1 → ℕ} {inbw : ∀ a, off a + S128.size a ≤ S16384.size a}
    {offs : Fin 1 → ℕ} {inb : ∀ a, offs a + S128.size a ≤ S1024.size a} {hsrc} {hdst} {α : Type}
    {k : PUnit → Prog (TpuEff nD τ sig (Elt F) Λ₀ (thr d L).2) α} {Q : α → sProp (MT nD τ sig (HIx 1) (Elt F) ℕ (UU F) ℕ)} :
    iprop(MayWaits (thr d L) (default : HIx 1) O ∗ Wt m d L O W 7)
      ⊢ iprop((iprop(bigSep Finset.univ (rowD m d L) ∗ semVal (thr d L, .dma cc0_scratch5.sem) 0 ∗ Ow d L O W) -∗ wpT d L (k ⟨⟩) Q)
      -∗ wpT d L (Prog.lift (TpuEff.waitDma2 cc0_scratch5.sem ((ouV).slice (Rect.unit (s := S1024) offs S128.size inb) (fun _ => rfl))
          ((wrV).slice (Rect.unit (s := S16384) off S128.size inbw) (fun _ => rfl)) hsrc hdst) >>= k) Q) := by
  unfold Wt Ow
  iintro ⟨#Hmw, HB, %W', %hW, HO⟩ Hk
  have hlast : 7 * rowN + rowN = rowN * 8 := by rw [Nat.mul_comm rowN 8]; exact (Nat.succ_mul 7 rowN).symm
  iapply (wp_waitBatchLastO countersEmb (defs := defs₀ (F := F)) 𝒱₀ (thr d L) none (default : HIx 1)
    (rfl : ((wrV).slice (Rect.unit (s := S16384) off S128.size inbw) (fun _ => rfl)).view.dmaCredit = rowN) rowN_pos hlast) $$ [HB HO]
  · isplitl [HB]; · iexact HB
    isplitl [HO]; · iexact HO
    iapply (MayWaits.elim (SemLoc.dma cc0_scratch5.sem)) $$ Hmw
  iintro ⟨HB, Hs, HO⟩
  iapply Hk
  isplitl [HB]; · iexact HB
  isplitl [Hs]; · iexact Hs
  iexists _; isplitr
  swap; · iexact HO
  ipureintro; intro p hp
  rcases Finset.mem_insert.mp hp with hp | hp
  · exact .inr (hp ▸ rfl)
  · exact hW p hp

set_option maxHeartbeats 4000000 in
/-- The fifty-ninth to sixty-fourth groups; the last row sent, the first waited for. -/
theorem wp_part10 {v2 : BitVec 32} {h : k0_chk60 (idxAtN m d L 928)} {Q : PUnit → sProp (MT nD τ sig (HIx 1) (Elt F) ℕ (UU F) ℕ)} :
    iprop(MayWaits (thr d L) (default : HIx 1) O ∗ St m d L f₀ 928 7 ∗ Ow d L O W)
      ⊢ iprop((iprop((∃ f, sqLoc d L ↦{fullShare} f) ∗ (∃ f, psLoc d L ↦{fullShare} f) ∗ Wt m d L O W 1) -∗ Q ⟨⟩)
      -∗ wpT d L (k0_part10 L valV (Memref.isWhole_whole _) offV (Memref.isWhole_whole _) pwV (Memref.isWhole_whole _) vrV (Memref.isWhole_whole _) orV (Memref.isWhole_whole _) wrV (Memref.isWhole_whole _)
      osV (Memref.isWhole_whole _) psV (Memref.isWhole_whole _) sqV (Memref.isWhole_whole _) ouV (Memref.isWhole_whole _) cc0_scratch4 cc0_scratch5 cc0_scratch6 cc0_scratch7 cc0_scoped0 v2 (idxAtN m d L 928) h) Q) := by
  simp only [k0_part10_eq_skeleton]; unfold k0_part10_skel
  iintro ⟨#Hmw, H, HO⟩ Hk
  iapply (wp_gat 928 (by omega)) $$ H; iintro H
  iapply (wp_put 928 (by omega) (by omega)) $$ H; iintro H
  iterate 5 (iapply (wp_group _ (by omega) (by omega) (fun _ h => h)) $$ H; iintro H)
  have h7 : k0_off11 L 896#32 0 = base L + 128 * 7 := off_at (k0_off11_eq L 7)
  iapply (wp_row 1024 (by omega) (by omega) h7 rfl) $$ H; iintro H
  unfold St
  icases H with ⟨Hsq, Hps, -, -, HB⟩
  iapply (wp_wrow 0 (by omega)) $$ [HB HO]
  · isplitr; · iexact Hmw
    unfold Wt
    isplitl [HB]
    · rw [Nat.zero_mul]; iexact HB
    iexact HO
  iintro H
  iapply wp_done
  iapply Hk
  isplitl [Hsq]; · iexists _; iexact Hsq
  isplitl [Hps]; · iexists _; iexact Hps
  iexact H

/-- The rows together: the tile's stretch of the result at the weights, the buffer whole. -/
theorem rows_join : bigSep Finset.univ (rowD m d L)
    ⊢ (iprop((wrLoc d ↦[span (base L) (base L + 1024)]{fullShare} weights m d) ∗ (ouLoc d L ↦{fullShare} tgtF m d L)) : sProp (MT nD τ sig (HIx 1) (Elt F) ℕ (UU F) ℕ)) := by
  have hd : ∀ (a : ℕ) (i j : Fin 8), i ≠ j → ∀ n, Disjoint (span (a + 128 * i.val) (a + 128 * i.val + 128) : Finset (⟨1, ![n]⟩ : Shape).Idx)
      (span (a + 128 * j.val) (a + 128 * j.val + 128)) := fun a i j h n => span_disjoint (by have := Fin.val_ne_of_ne h; omega)
  have hu : ∀ (a n : ℕ), (Finset.univ : Finset (Fin 8)).biUnion (fun r => (span (a + 128 * r.val) (a + 128 * r.val + 128) : Finset (⟨1, ![n]⟩ : Shape).Idx))
      = span a (a + 1024) := by
    intro a n; ext i
    simp only [Finset.mem_biUnion, Finset.mem_univ, true_and, mem_span]
    constructor
    · rintro ⟨r, h⟩; omega
    · intro h; exact ⟨⟨((i 0).val - a) / 128, by omega⟩, by show a + 128 * (((i 0).val - a) / 128) ≤ _ ∧ _ < a + 128 * (((i 0).val - a) / 128) + 128; omega⟩
  unfold rowD
  rw [bigSep_sep']
  refine BIClass.sep_mono (Entails.of_eq ?_) (Entails.of_eq ?_)
  · rw [← pointsTo_biUnion (ℓ := wrLoc d) (q := fullShare) (f := weights m d) Finset.univ
      (fun r : Fin 8 => span (base L + 128 * r.val) (base L + 128 * r.val + 128)) (fun i _ j _ h => hd (base L) i j h 16384)]
    exact congrArg (fun s => (wrLoc d ↦[s]{fullShare} weights m d)) (hu (base L) 16384)
  · have hd0 : ∀ i ∈ (Finset.univ : Finset (Fin 8)), ∀ j ∈ (Finset.univ : Finset (Fin 8)), i ≠ j →
        Disjoint (span (128 * i.val) (128 * i.val + 128) : Finset S1024.Idx) (span (128 * j.val) (128 * j.val + 128)) :=
      fun i _ j _ h => span_disjoint_of_ne (n := 1024) i j h
    rw [← pointsTo_biUnion (ℓ := ouLoc d L) (q := fullShare) (f := tgtF m d L) Finset.univ
      (fun r : Fin 8 => span (128 * r.val) (128 * r.val + 128)) hd0]
    exact congrArg (fun s => (ouLoc d L ↦[s]{fullShare} tgtF m d L)) (span_cover (n := 1024) (k := 8) (c := 128) rfl)

end Tile

end Cert.Proof.Body

end
-- ==== Proof.Copies.lean ====
/-
  The copies a tile starts with: `position_weight` into its buffer, its stretch of the values, the offsets into the second
  result (in write mode: every tile writes the same words there) and the first sixteen offsets, for which it waits.
-/
module

public import proofs.«01_k».proof.Proof.Parts
public import proofs.«01_k».proof.Proof.Gen.KernelIdeal.Skeleton

@[expose] public section

noncomputable section

namespace Cert.Proof.Body

open Cert.KernelIdeal Cert.KernelIdeal.Gen Cert.Proof.Positions

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ (UU F) ℕ

local notation "valV" => (Memref.whole main_arg0_scv : Memref Cert.KernelIdeal.sig Kind.scVector Space.hbm S16384 EltTy.i32)
local notation "offV" => (Memref.whole main_arg1_scv : Memref Cert.KernelIdeal.sig Kind.scVector Space.hbm S17 EltTy.i32)
local notation "pwV" => (Memref.whole main_arg2_scv : Memref Cert.KernelIdeal.sig Kind.scVector Space.hbm S16384 EltTy.f32)
local notation "vrV" => (Memref.whole main_v0_0_scv : Memref Cert.KernelIdeal.sig Kind.scVector Space.hbm S16384 EltTy.i32)
local notation "orV" => (Memref.whole main_v0_1_scv : Memref Cert.KernelIdeal.sig Kind.scVector Space.hbm S17 EltTy.i32)
local notation "wrV" => (Memref.whole main_v0_2_scv : Memref Cert.KernelIdeal.sig Kind.scVector Space.hbm S16384 EltTy.f32)
local notation "osV" => (Memref.whole cc0_scratch0 : Memref Cert.KernelIdeal.sig Kind.scVector Space.vmem S16 EltTy.i32)
local notation "psV" => (Memref.whole cc0_scratch1 : Memref Cert.KernelIdeal.sig Kind.scVector Space.vmem S16384 EltTy.f32)
local notation "sqV" => (Memref.whole cc0_scratch2 : Memref Cert.KernelIdeal.sig Kind.scVector Space.vmem S1024 EltTy.i32)
local notation "ouV" => (Memref.whole cc0_scratch3 : Memref Cert.KernelIdeal.sig Kind.scVector Space.vmem S1024 EltTy.f32)

section Tile

variable {m : (ℓ : Loc nD τ sig) → Buf (Elt F) ℓ} {d : Dev nD} {L : grid0.Coords}
variable {O : CellTallies nD τ sig (HIx 1)} {W : Waits sig (HIx 1)}
variable {α : Type}
variable {Q : α → sProp (MT nD τ sig (HIx 1) (Elt F) ℕ (UU F) ℕ)}

theorem numel_pos : 0 < S16384.numel := by decide
theorem numel_pos1024 : 0 < S1024.numel := by decide
theorem numel_pos17 : 0 < S17.numel := by decide
theorem numel_pos16 : 0 < S16.numel := by decide

abbrev osLoc (d : Dev nD) (L : grid0.Coords) : Loc nD τ sig := (thr d L).loc cc0_scratch0

/-- A wait for one copy. -/
theorem wp_wait {sem : DmaSem sig} {sp sp' : Space} {s s' : Shape} {e e' : EltTy}
    {srcw : Memref sig (thr d L).2.kind sp' s' e'} {dstw : Memref sig (thr d L).2.kind sp s e} {hsrc : srcw.view.WordExact} {hdst : dstw.view.WordExact}
    {k : PUnit → Prog (TpuEff nD τ sig (Elt F) Λ₀ (thr d L).2) α} {N : ℕ} (hN : dstw.view.dmaCredit = N) {D : sProp (MT nD τ sig (HIx 1) (Elt F) ℕ (UU F) ℕ)} :
    iprop(MayWaits (thr d L) (default : HIx 1) O ∗ Flight countersEmb (thr d L) (.dma sem) (default : HIx 1) N D ∗ Ow d L O W)
      ⊢ iprop((iprop(D ∗ semVal (thr d L, .dma sem) 0 ∗ Ow d L O W) -∗ wpT d L (k ⟨⟩) Q)
      -∗ wpT d L (Prog.lift (TpuEff.waitDma2 sem srcw dstw hsrc hdst) >>= k) Q) := by
  unfold Ow
  iintro ⟨#Hmw, Hf, %W', %hW, HO⟩ Hk
  iapply (Transfers.wp_waitLocalO countersEmb (defs := defs₀ (F := F)) 𝒱₀ (thr d L) none (default : HIx 1) hN) $$ [Hf HO]
  · isplitl [Hf]; · iexact Hf
    isplitl [HO]; · iexact HO
    iapply (MayWaits.elim (SemLoc.dma sem)) $$ Hmw
  iintro ⟨HD, Hs, HO⟩
  iapply Hk
  isplitl [HD]; · iexact HD
  isplitl [Hs]; · iexact Hs
  iexists _; isplitr
  swap; · iexact HO
  ipureintro; intro p hp
  rcases Finset.mem_insert.mp hp with hp | hp
  · exact .inr (hp ▸ rfl)
  · exact hW p hp

variable (m d L) in
/-- `position_weight` on its way to the tile's buffer. -/
def FlP : sProp (MT nD τ sig (HIx 1) (Elt F) ℕ (UU F) ℕ) :=
  Flight countersEmb (thr d L) (.dma cc0_scratch4.sem) (default : HIx 1) (psV).view.dmaCredit
    iprop((psLoc d L ↦{fullShare} (m (pLoc d) : S16384.Idx → Elt F .f32)) ∗ (pLoc d ↦{xq (jL L)} m (pLoc d)))

/-- Sending it. -/
theorem wp_enqP {hsrc} {hdst} {hsem} {f : Buf (Elt F) (psLoc d L)} {k : PUnit → Prog (TpuEff nD τ sig (Elt F) Λ₀ (thr d L).2) α} :
    iprop((pLoc d ↦{xq (jL L)} m (pLoc d)) ∗ (psLoc d L ↦{fullShare} f) ∗ semVal (thr d L, .dma cc0_scratch4.sem) 0)
      ⊢ iprop((FlP m d L -∗ wpT d L (k ⟨⟩) Q)
      -∗ wpT d L (Prog.lift (TpuEff.enqueueDma pwV (.here psV) (.dma cc0_scratch4.sem) hsrc hdst hsem) >>= k) Q) := by
  have hw : ((psV).view.write (Elt F) f (ReadAs.same.apply ((pwV).view.read (Elt F) (m (pLoc d)))) Finset.univ : S16384.Idx → Elt F .f32) = m (pLoc d) :=
    View.write_whole_univ cc0_scratch1 f _
  unfold FlP
  rw [← pointsTo_congr (ℓ := psLoc d L) (I := Finset.univ) (q := fullShare) fun i _ => congrFun hw i]
  iintro ⟨Hp, Hs, Hv⟩ Hk
  iapply (Transfers.wp_dmaLocal countersEmb (defs := defs₀ (F := F)) 𝒱₀ (thr d L) none (src := pwV) (via := .same) (dst := psV)
    (sm := .dma cc0_scratch4.sem) (q := xq (jL L)) (fs := m (pLoc d)) (Sd := Finset.univ) (fd := f) (default : HIx 1)
    (psV).view.dmaCredit rfl ((psV).view.dmaCredit_pos numel_pos) (Finset.subset_univ _)) $$ [Hp Hs Hv]
  · isplitl [Hp]
    · rw [show (pwV).view.set = Finset.univ from View.set_whole _]; iexact Hp
    isplitl [Hs]; · iexact Hs
    iexact Hv
  rw [show (pwV).view.set = Finset.univ from View.set_whole _]
  iexact Hk

/-- A tile's stretch of an array of 16384. -/
theorem set_rect_tile {off : Fin 1 → ℕ} (hoff : off 0 = base L) (inb : ∀ a, off a + S1024.size a ≤ S16384.size a) :
    (Rect.unit (s := S16384) off S1024.size inb).set = tileSet (jL L) := by
  rw [set_rect (n := 16384) off S1024.size inb, hoff]; rfl

variable (m d L) in
/-- The tile's stretch of the values on its way to the first result. -/
def FlV : sProp (MT nD τ sig (HIx 1) (Elt F) ℕ (UU F) ℕ) :=
  Flight countersEmb (thr d L) (.dma cc0_scratch6.sem) (default : HIx 1)
    ((vrV).slice (Rect.unit (s := S16384) ![0] S1024.size (by decide)) (fun _ => rfl)).view.dmaCredit
    iprop((vrLoc d ↦[tileSet (jL L)]{fullShare} m (vLoc d)) ∗ (vLoc d ↦[tileSet (jL L)]{fullShare} m (vLoc d)))

/-- Sending it. -/
theorem wp_enqV {off : Fin 1 → ℕ} (hoff : off 0 = base L) {inb : ∀ a, off a + S1024.size a ≤ S16384.size a} {hsrc} {hdst} {hsem}
    {f : Buf (Elt F) (vrLoc d)} {k : PUnit → Prog (TpuEff nD τ sig (Elt F) Λ₀ (thr d L).2) α} :
    iprop((vLoc d ↦[tileSet (jL L)]{fullShare} m (vLoc d)) ∗ (vrLoc d ↦[tileSet (jL L)]{fullShare} f) ∗ semVal (thr d L, .dma cc0_scratch6.sem) 0)
      ⊢ iprop((FlV m d L -∗ wpT d L (k ⟨⟩) Q)
      -∗ wpT d L (Prog.lift (TpuEff.enqueueDma ((valV).slice (Rect.unit (s := S16384) off S1024.size inb) (fun _ => rfl))
          (.here ((vrV).slice (Rect.unit (s := S16384) off S1024.size inb) (fun _ => rfl))) (.dma cc0_scratch6.sem) hsrc hdst hsem) >>= k) Q) := by
  have hset := set_rect_tile hoff inb
  have hsV : (((valV).slice (Rect.unit (s := S16384) off S1024.size inb) (fun _ => rfl)).view.set : Finset S16384.Idx) = tileSet (jL L) :=
    (View.set_slice_whole _ _).trans hset
  have hsR : (((vrV).slice (Rect.unit (s := S16384) off S1024.size inb) (fun _ => rfl)).view.set : Finset S16384.Idx) = tileSet (jL L) :=
    (View.set_slice_whole _ _).trans hset
  have hw : ∀ i ∈ tileSet (jL L), (((vrV).slice (Rect.unit (s := S16384) off S1024.size inb) (fun _ => rfl)).view.write (Elt F) f
      (ReadAs.same.apply (((valV).slice (Rect.unit (s := S16384) off S1024.size inb) (fun _ => rfl)).view.read (Elt F) (m (vLoc d)))) Finset.univ : S16384.Idx → Elt F .i32) i
      = m (vLoc d) i :=
    fun i hi => write_eq_on main_v0_0_scv (Rect.unit (s := S16384) off S1024.size inb) f (m (vLoc d)) _ (fun x => rfl) i (by rw [hset]; exact hi)
  unfold FlV
  rw [← pointsTo_congr (ℓ := vrLoc d) (q := fullShare) hw]
  iintro ⟨Hp, Hs, Hv⟩ Hk
  iapply (Transfers.wp_dmaLocal countersEmb (defs := defs₀ (F := F)) 𝒱₀ (thr d L) none
    (src := (valV).slice (Rect.unit (s := S16384) off S1024.size inb) (fun _ => rfl)) (via := .same)
    (dst := (vrV).slice (Rect.unit (s := S16384) off S1024.size inb) (fun _ => rfl))
    (sm := .dma cc0_scratch6.sem) (q := fullShare) (fs := m (vLoc d)) (Sd := tileSet (jL L)) (fd := f) (default : HIx 1)
    ((vrV).slice (Rect.unit (s := S16384) ![0] S1024.size (by decide)) (fun _ => rfl)).view.dmaCredit rfl (View.dmaCredit_pos _ numel_pos1024) (le_of_eq hsR)) $$ [Hp Hs Hv]
  · isplitl [Hp]
    · rw [hsV]; iexact Hp
    isplitl [Hs]; · iexact Hs
    iexact Hv
  rw [hsV]
  iexact Hk

variable (m d L) in
/-- The offsets on their way to the second result, in write mode. -/
def FlO : sProp (MT nD τ sig (HIx 1) (Elt F) ℕ (UU F) ℕ) :=
  Flight countersEmb (thr d L) (.dma cc0_scratch7.sem) (default : HIx 1) (orV).view.dmaCredit
    iprop(orWm m d (xq (jL L)) Finset.univ ∗ (oLoc d ↦{(xq (jL L)).left} m (oLoc d)))

/-- Sending them: what is sent is what every element is to become. -/
theorem wp_enqO {hsrc} {hdst} {hsem} {k : PUnit → Prog (TpuEff nD τ sig (Elt F) Λ₀ (thr d L).2) α} :
    iprop(wmOn F ∗ (oLoc d ↦{(xq (jL L)).left} m (oLoc d)) ∗ orWm m d (xq (jL L)) ∅ ∗ semVal (thr d L, .dma cc0_scratch7.sem) 0)
      ⊢ iprop((FlO m d L -∗ wpT d L (k ⟨⟩) Q)
      -∗ wpT d L (Prog.lift (TpuEff.enqueueDma offV (.here orV) (.dma cc0_scratch7.sem) hsrc hdst hsem) >>= k) Q) := by
  have hso : (offV).view.set = Finset.univ := View.set_whole _
  have hsr : (orV).view.set = Finset.univ := View.set_whole _
  have hadm : (orV).view.Admitted (Elt F) (fun i : S17.Idx => some (m (oLoc d) i)) ((offV).view.read (Elt F) (m (oLoc d))) Finset.univ :=
    fun x _ u h => Option.some.inj h
  unfold FlO
  iintro ⟨⟨%ι, #Hwm⟩, Ho, Hr, Hv⟩ Hk
  imod (flight_alloc countersEmb (g := (thr d L, .dma cc0_scratch7.sem)) (View.dmaCredit_pos (orV).view numel_pos17)
    iprop(orWm m d (xq (jL L)) Finset.univ ∗ (oLoc d ↦{(xq (jL L)).left} m (oLoc d)))) $$ Hv with ⟨%γ, %δ, %κ, #Hinv, Hγ, Hδ⟩
  iapply (wp_enqueueDma_willBeTo (emb := EW (F := F)) (ιwm := ι) (defs := defs₀ (F := F)) 𝒱₀ (thr d L) none Set.univ
    (src := offV) (dst := orV) (sem := .dma cc0_scratch7.sem) (q := (xq (jL L)).left) (fs := m (oLoc d)) (qd := xq (jL L)) (fd := m (orLoc d))
    (g := (fun i : S17.Idx => some (m (oLoc d) i))) (W := ∅) (default : HIx 1) (orV).view.dmaCredit rfl hadm) $$ [Ho Hr] [Hγ]
  · rw [hso, hsr]
    isplitl [Ho]; · iexact Ho
    isplitr; · iexact Hwm
    iexact Hr
  · rw [hso, hsr, Finset.empty_union]
    iapply (flight_creditUpdate countersEmb (δ := δ))
    isplitr; · iexact Hinv
    iexact Hγ
  iintro Hcred
  iapply Hk
  iapply (flight_intro countersEmb (thr d L) (κ := κ))
  isplitr; · iexact Hinv
  isplitl [Hδ] <;> iassumption

/-- The first sixteen offsets to the tile's buffer, and their wait. -/
theorem wp_sync {q : PosShare TreeShare} {inb : ∀ a, (![0] : Fin 1 → ℕ) a + S16.size a ≤ S17.size a} {hsrc} {hdst} {hsem} {hsrc'} {hdst'}
    {f : Buf (Elt F) (osLoc d L)} {k : PUnit → Prog (TpuEff nD τ sig (Elt F) Λ₀ (thr d L).2) α} :
    iprop(MayWaits (thr d L) (default : HIx 1) O ∗ (oLoc d ↦{q} m (oLoc d)) ∗ (osLoc d L ↦{fullShare} f) ∗ semVal (thr d L, .dma cc0_scoped0.sem) 0 ∗ Ow d L O W)
      ⊢ iprop((iprop((oLoc d ↦{q} m (oLoc d)) ∗ (osLoc d L ↦{fullShare} (offs m d : S16.Idx → Elt F .i32)) ∗ semVal (thr d L, .dma cc0_scoped0.sem) 0 ∗ Ow d L O W)
          -∗ wpT d L (k ⟨⟩) Q)
      -∗ wpT d L (Prog.lift (TpuEff.enqueueDma ((offV).slice (Rect.unit (s := S17) ![0] S16.size inb) (fun _ => rfl)) (.here osV) (.dma cc0_scoped0.sem) hsrc hdst hsem) >>= fun _ =>
          Prog.lift (TpuEff.waitDma2 cc0_scoped0.sem ((offV).slice (Rect.unit (s := S17) ![0] S16.size inb) (fun _ => rfl)) osV hsrc' hdst') >>= k) Q) := by
  have hw : ((osV).view.write (Elt F) f (ReadAs.same.apply (((offV).slice (Rect.unit (s := S17) ![0] S16.size inb) (fun _ => rfl)).view.read (Elt F) (m (oLoc d))))
      Finset.univ : S16.Idx → Elt F .i32) = offs m d := by
    refine (View.write_whole_univ cc0_scratch0 f _).trans ?_
    funext x
    show m (oLoc d) ((Rect.unit (s := S17) ![0] S16.size inb).emb x) = m (oLoc d) _
    congr 1
    funext a; obtain rfl := Fin.eq_zero a
    apply Fin.ext
    refine (emb_rect (n := 17) ![0] S16.size inb x).trans ?_
    exact Nat.zero_add _
  iintro ⟨#Hmw, Ho, Hs, Hv, HO⟩ Hk
  ihave Ho := (pointsTo_split_subset (q := q) (f := m (oLoc d)) (S := Finset.univ)
    (Finset.subset_univ ((offV).slice (Rect.unit (s := S17) ![0] S16.size inb) (fun _ => rfl)).view.set)).1 $$ Ho
  icases Ho with ⟨Ho, Hrest⟩
  iapply (Transfers.wp_dmaLocal countersEmb (defs := defs₀ (F := F)) 𝒱₀ (thr d L) none
    (src := (offV).slice (Rect.unit (s := S17) ![0] S16.size inb) (fun _ => rfl)) (via := .same) (dst := osV)
    (sm := .dma cc0_scoped0.sem) (q := q) (fs := m (oLoc d)) (Sd := Finset.univ) (fd := f) (default : HIx 1)
    (osV).view.dmaCredit rfl (View.dmaCredit_pos _ numel_pos16) (Finset.subset_univ _)) $$ [Ho Hs Hv]
  · isplitl [Ho]; · iexact Ho
    isplitl [Hs]; · iexact Hs
    iexact Hv
  iintro Hf
  iapply (wp_wait (rfl : (osV).view.dmaCredit = _)) $$ [Hf HO]
  · isplitr; · iexact Hmw
    isplitl [Hf]; · iexact Hf
    iexact HO
  rw [hw]
  iintro ⟨⟨Hs, Ho⟩, Hv, HO⟩
  ihave Ho := (pointsTo_split_subset (q := q) (f := m (oLoc d)) (S := Finset.univ)
    (Finset.subset_univ ((offV).slice (Rect.unit (s := S17) ![0] S16.size inb) (fun _ => rfl)).view.set)).2 $$ [Ho Hrest]
  · isplitl [Ho] <;> iassumption
  iapply Hk
  isplitl [Ho]; · iexact Ho
  isplitl [Hs]; · iexact Hs
  isplitl [Hv]; · iexact Hv
  iexact HO

end Tile

end Cert.Proof.Body

end
-- ==== Proof.Loops.lean ====
/-
  The places a tile gathers at: its buffer zeroed sixteen words at a time, the segment starts inside the tile scattered
  over it, and the running maximum's loop, which leaves each position's place in its segment.
-/
module

public import proofs.«01_k».proof.Proof.Copies
public import proofs.«01_k».proof.Proof.Gen.KernelIdeal.Skeleton

@[expose] public section

noncomputable section

namespace Cert.Proof.Body

open Cert.KernelIdeal Cert.KernelIdeal.Gen Cert.Proof.Positions

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ (UU F) ℕ

local notation "valV" => (Memref.whole main_arg0_scv : Memref Cert.KernelIdeal.sig Kind.scVector Space.hbm S16384 EltTy.i32)
local notation "offV" => (Memref.whole main_arg1_scv : Memref Cert.KernelIdeal.sig Kind.scVector Space.hbm S17 EltTy.i32)
local notation "pwV" => (Memref.whole main_arg2_scv : Memref Cert.KernelIdeal.sig Kind.scVector Space.hbm S16384 EltTy.f32)
local notation "vrV" => (Memref.whole main_v0_0_scv : Memref Cert.KernelIdeal.sig Kind.scVector Space.hbm S16384 EltTy.i32)
local notation "orV" => (Memref.whole main_v0_1_scv : Memref Cert.KernelIdeal.sig Kind.scVector Space.hbm S17 EltTy.i32)
local notation "wrV" => (Memref.whole main_v0_2_scv : Memref Cert.KernelIdeal.sig Kind.scVector Space.hbm S16384 EltTy.f32)
local notation "osV" => (Memref.whole cc0_scratch0 : Memref Cert.KernelIdeal.sig Kind.scVector Space.vmem S16 EltTy.i32)
local notation "psV" => (Memref.whole cc0_scratch1 : Memref Cert.KernelIdeal.sig Kind.scVector Space.vmem S16384 EltTy.f32)
local notation "sqV" => (Memref.whole cc0_scratch2 : Memref Cert.KernelIdeal.sig Kind.scVector Space.vmem S1024 EltTy.i32)
local notation "ouV" => (Memref.whole cc0_scratch3 : Memref Cert.KernelIdeal.sig Kind.scVector Space.vmem S1024 EltTy.f32)

section Tile

variable {m : (ℓ : Loc nD τ sig) → Buf (Elt F) ℓ} {d : Dev nD} {L : grid0.Coords}
variable {O : CellTallies nD τ sig (HIx 1)} {W : Waits sig (HIx 1)}
variable {f₀ : S1024.Idx → Elt F .f32}
variable {α : Type}
variable {Q : α → sProp (MT nD τ sig (HIx 1) (Elt F) ℕ (UU F) ℕ)}

theorem trips1 : k0_t1_loop.trips = 64 := by decide +kernel
theorem trips2 : k0_t2_loop.trips = 64 := by decide +kernel

/-- Reading sixteen words of the tile's buffer. -/
theorem wp_sqLd {f : S1024.Idx → Elt F .i32} {off : Fin 1 → ℕ} {inb : ∀ a, off a + S16.size a ≤ S1024.size a}
    {hl : (sqV).view.LoadsAt (Rect.unit (s := S1024) off S16.size inb).toLoadRect}
    {k : Vec F S16 .i32 → Prog (TpuEff nD τ sig (Elt F) Λ₀ (thr d L).2) α} :
    (sqLoc d L ↦{fullShare} f) ⊢ iprop(((sqLoc d L ↦{fullShare} f) -∗ wpT d L (k (fun x => f ((Rect.unit (s := S1024) off S16.size inb).emb x))) Q)
      -∗ wpT d L (Prog.lift (TpuEff.load sqV (Rect.unit (s := S1024) off S16.size inb).toLoadRect hl) >>= k) Q) := by
  iintro Hsq Hk
  iapply (wp_load_rect (defs := defs₀ (F := F)) 𝒱₀ (thr d L) none Set.univ (m := sqV) (r := Rect.unit (s := S1024) off S16.size inb) (S := Finset.univ) (Finset.subset_univ _)) $$ Hsq
  iexact Hk

/-- Writing sixteen words of it: what agrees with them there and with the old contents elsewhere. -/
theorem wp_sqSt {f : S1024.Idx → Elt F .i32} (g : S1024.Idx → Elt F .i32) {off : Fin 1 → ℕ} {inb : ∀ a, off a + S16.size a ≤ S1024.size a}
    {v : Vec F S16 .i32} {hx : ((sqV).access (Rect.unit (s := S1024) off S16.size inb)).Stores Finset.univ} {hm}
    (hin : ∀ x, g ((Rect.unit (s := S1024) off S16.size inb).emb x) = v x)
    (hout : ∀ i : S1024.Idx, ¬ (off 0 ≤ (i 0).val ∧ (i 0).val < off 0 + 16) → g i = f i)
    {k : PUnit → Prog (TpuEff nD τ sig (Elt F) Λ₀ (thr d L).2) α} :
    (sqLoc d L ↦{fullShare} f) ⊢ iprop(((sqLoc d L ↦{fullShare} g) -∗ wpT d L (k ⟨⟩) Q)
      -∗ wpT d L (Prog.lift (TpuEff.store sqV (Rect.unit (s := S1024) off S16.size inb) v Finset.univ hx hm) >>= k) Q) := by
  have hw : (((sqV).access (Rect.unit (s := S1024) off S16.size inb)).write (Elt F) f v Finset.univ : S1024.Idx → Elt F .i32) = g :=
    write_eq cc0_scratch2 (Rect.unit (s := S1024) off S16.size inb) _ _ _ hin fun i hi => hout i fun h => hi (by
      rw [set_rect (n := 1024) off S16.size inb, mem_span]; exact h)
  iintro Hsq Hk
  iapply (wp_store (defs := defs₀ (F := F)) 𝒱₀ (thr d L) none Set.univ (m := sqV) (r := Rect.unit (s := S1024) off S16.size inb) (S := Finset.univ) (Finset.subset_univ _)) $$ Hsq
  rw [hw]
  iexact Hk

/-- The buffer with its first `n` words zero. -/
def Zd (d : Dev nD) (L : grid0.Coords) (n : ℕ) : sProp (MT nD τ sig (HIx 1) (Elt F) ℕ (UU F) ℕ) :=
  iprop(∃ f : S1024.Idx → Elt F .i32, ⌜∀ i, (i 0).val < n → f i = 0#32⌝ ∗ sqLoc d L ↦{fullShare} f)

theorem wp_zero {k : PUnit → Prog (TpuEff nD τ sig (Elt F) Λ₀ (thr d L).2) α} :
    (iprop(∃ f : S1024.Idx → Elt F .i32, sqLoc d L ↦{fullShare} f) : sProp (MT nD τ sig (HIx 1) (Elt F) ℕ (UU F) ℕ))
      ⊢ iprop((Zd d L 1024 -∗ wpT d L (k ⟨⟩) Q)
      -∗ wpT d L (Scf.Loop.for k0_t1_loop k0_t1_ok ⟨⟩ (k0_t1_body L valV (Memref.isWhole_whole _) offV (Memref.isWhole_whole _) pwV (Memref.isWhole_whole _) vrV (Memref.isWhole_whole _) orV (Memref.isWhole_whole _) wrV (Memref.isWhole_whole _)
      osV (Memref.isWhole_whole _) psV (Memref.isWhole_whole _) sqV (Memref.isWhole_whole _) ouV (Memref.isWhole_whole _) cc0_scratch4 cc0_scratch5 cc0_scratch6 cc0_scratch7 cc0_scoped0) >>= k) Q) := by
  iintro ⟨%f, Hsq⟩ Hk
  iapply (Scf.wp_for_bind frame (wpE (defs₀ (F := F)) 𝒱₀ (thr d L) none) Set.univ k0_t1_loop.lb k0_t1_loop.ub k0_t1_loop.st k0_t1_ok ⟨⟩
    (k0_t1_body L valV (Memref.isWhole_whole _) offV (Memref.isWhole_whole _) pwV (Memref.isWhole_whole _) vrV (Memref.isWhole_whole _) orV (Memref.isWhole_whole _) wrV (Memref.isWhole_whole _)
      osV (Memref.isWhole_whole _) psV (Memref.isWhole_whole _) sqV (Memref.isWhole_whole _) ouV (Memref.isWhole_whole _) cc0_scratch4 cc0_scratch5 cc0_scratch6 cc0_scratch7 cc0_scoped0) (fun n _ => Zd d L (16 * n)) ?_) $$ [Hsq]
  · intro t acc
    unfold k0_t1_body Zd
    iintro ⟨%f, %hf, Hsq⟩
    have ho : k0_off2 t 0 = 16 * t.val := by rw [k0_off2_eq]; rfl
    iapply wp_sqLd $$ Hsq
    iintro Hsq
    iapply (wp_sqSt (fun i => if (i 0).val < 16 * t.val + 16 then 0#32 else f i) ?_ ?_) $$ Hsq
    · intro x
      have e : ((Rect.unit (s := S1024) (k0_off2 t) S16.size (k0_off2_inb t)).emb x 0).val = k0_off2 t 0 + (x 0).val := emb_rect (n := 1024) (k0_off2 t) S16.size _ x
      have hx : (x 0).val < 16 := (x 0).isLt
      exact if_pos (by omega)
    · intro i hi
      rw [ho] at hi
      by_cases h : (i 0).val < 16 * t.val
      · exact (if_pos (by omega)).trans (hf i h).symm
      · exact if_neg (by omega)
    iintro Hsq
    iapply wp_done
    iexists _; isplitr
    swap; · iexact Hsq
    ipureintro
    intro i hi
    exact if_pos (by omega)
  · unfold Zd
    iexists f; isplitr
    swap; · iexact Hsq
    ipureintro; intro i hi; omega
  iintro %acc H
  have ht : Scf.trips k0_t1_loop.lb k0_t1_loop.ub k0_t1_loop.st = 64 := trips1
  rw [ht]
  iapply Hk; iexact H

variable (m d L) in
/-- The segment starts inside the tile, each at its own position. -/
def markF : S1024.Idx → Elt F .i32 := fun i => mark (offs m d) (base L) (i 0).val

/-- Scattering them over zeros. -/
theorem wp_scatter {h : ∀ a x, ((![k0_pay4 (F := F) L (offs m d)] : Fin 1 → IVec S16 32) a x).toNat < S1024.size a} {hs}
    {k : PUnit → Prog (TpuEff nD τ sig (Elt F) Λ₀ (thr d L).2) α} :
    Zd d L 1024 ⊢ iprop(((sqLoc d L ↦{fullShare} markF m d L) -∗ wpT d L (k ⟨⟩) Q)
      -∗ wpT d L (SparseCore.vectorStoreIdx sqV ![k0_pay4 (F := F) L (offs m d)] (offs m d : Vec F S16 .i32) (k0_pay3 (F := F) L (offs m d)) false h hs >>= k) Q) := by
  unfold Zd
  iintro ⟨%f, %hf, Hsq⟩ Hk
  have hset : (((sqV).access (.whole S1024)).set : Finset S1024.Idx) = Finset.univ := by
    refine (View.set_slice_whole _ _).trans ?_
    exact (set_rect (n := 1024) (fun _ => 0) S1024.size (fun a => by simp)).trans (span_univ (n := 1024))
  have hw : (((sqV).access (.whole S1024)).write (Elt F) f (storeIdx (((sqV).access (.whole S1024)).read (Elt F) f) ![k0_pay4 (F := F) L (offs m d)]
      (offs m d : Vec F S16 .i32) (k0_pay3 (F := F) L (offs m d)) false h) Finset.univ : S1024.Idx → Elt F .i32) = markF m d L := by
    refine write_eq cc0_scratch2 (.whole S1024) _ _ _ (fun x => ?_) fun i hi => ?_
    · have e : (Rect.whole S1024).emb x = x := by
        funext a; obtain rfl := Fin.eq_zero a
        exact Fin.ext ((emb_rect (n := 1024) (fun _ => 0) S1024.size _ x).trans (Nat.zero_add _))
      have hr : ∀ j : S1024.Idx, ((sqV).access (.whole S1024)).read (Elt F) f j = 0#32 := fun j => hf _ ((((Rect.whole S1024).emb j) 0).isLt)
      refine Eq.trans ?_ (scatter_eq L (offs m d) _ hr h x).symm
      show mark _ _ ((Rect.whole S1024).emb x 0).val = _
      rw [e]
    · exact absurd (by rw [show ((Rect.whole S1024).set : Finset S1024.Idx) = Finset.univ from (View.set_slice_whole cc0_scratch2 (.whole S1024)).symm.trans hset]; exact Finset.mem_univ i) hi
  iapply (SparseCore.wp_vectorStoreIdx (defs := defs₀ (F := F)) 𝒱₀ (thr d L) none Set.univ (s := S1024) (base := sqV) (f := f)) $$ [Hsq]
  · rw [hset]; iexact Hsq
  rw [hset, hw]
  iexact Hk

variable (m d L) in
/-- The buffer with the places of its first `n` positions found. -/
def partF (n : ℕ) : S1024.Idx → Elt F .i32 := fun i => if (i 0).val < n then idxF m d L i else markF m d L i

variable (m d L) in
/-- The second loop's state after `t` sixteens, with what it carries. -/
def Pl (t : ℕ) (c : BitVec 32) : sProp (MT nD τ sig (HIx 1) (Elt F) ℕ (UU F) ℕ) :=
  iprop(⌜c.toInt.toNat = lastStart (offs m d) (max (base L + 1) (base L + 16 * t))⌝ ∗ sqLoc d L ↦{fullShare} partF m d L (16 * t))

theorem wp_places {v2 : BitVec 32} (hv2 : v2 = BitVec.ofNat 32 (base L)) {c : BitVec 32}
    (hc : c.toInt.toNat = lastStart (offs m d) (max (base L + 1) (base L + 16 * 0)))
    {k : BitVec 32 → Prog (TpuEff nD τ sig (Elt F) Λ₀ (thr d L).2) α} :
    (sqLoc d L ↦{fullShare} markF m d L) ⊢ iprop((∀ c', (sqLoc d L ↦{fullShare} (idxF m d L : S1024.Idx → Elt F .i32)) -∗ wpT d L (k c') Q)
      -∗ wpT d L (Scf.Loop.for k0_t2_loop k0_t2_ok c (k0_t2_body L valV (Memref.isWhole_whole _) offV (Memref.isWhole_whole _) pwV (Memref.isWhole_whole _) vrV (Memref.isWhole_whole _) orV (Memref.isWhole_whole _) wrV (Memref.isWhole_whole _)
      osV (Memref.isWhole_whole _) psV (Memref.isWhole_whole _) sqV (Memref.isWhole_whole _) ouV (Memref.isWhole_whole _) cc0_scratch4 cc0_scratch5 cc0_scratch6 cc0_scratch7 cc0_scoped0 v2 c) >>= k) Q) := by
  subst hv2
  iintro Hsq Hk
  iapply (Scf.wp_for_bind frame (wpE (defs₀ (F := F)) 𝒱₀ (thr d L) none) Set.univ k0_t2_loop.lb k0_t2_loop.ub k0_t2_loop.st k0_t2_ok c
    (k0_t2_body L valV (Memref.isWhole_whole _) offV (Memref.isWhole_whole _) pwV (Memref.isWhole_whole _) vrV (Memref.isWhole_whole _) orV (Memref.isWhole_whole _) wrV (Memref.isWhole_whole _)
      osV (Memref.isWhole_whole _) psV (Memref.isWhole_whole _) sqV (Memref.isWhole_whole _) ouV (Memref.isWhole_whole _) cc0_scratch4 cc0_scratch5 cc0_scratch6 cc0_scratch7 cc0_scoped0 (BitVec.ofNat 32 (base L)) c) (fun n c => Pl m d L n c) ?_) $$ [Hsq]
  · intro t c
    unfold k0_t2_body Pl
    iintro ⟨%hc, Hsq⟩
    have ho : k0_off3 t 0 = 16 * t.val := by rw [k0_off3_eq]; rfl
    have htl : t.val < 64 := Nat.lt_of_lt_of_eq t.isLt trips2
    have hb := base_le L
    have he : ∀ x, ((Rect.unit (s := S1024) (k0_off3 t) S16.size (k0_off3_inb t)).emb x 0).val = 16 * t.val + (x 0).val := fun x =>
      (emb_rect (n := 1024) (k0_off3 t) S16.size _ x).trans (by rw [ho])
    have hv : ∀ x : S16.Idx, (fun x => partF m d L (16 * t.val) ((Rect.unit (s := S1024) (k0_off3 t) S16.size (k0_off3_inb t)).emb x)) x
        = mark (offs m d) (base L) (16 * t.val + (x 0).val) := by
      intro x
      refine (if_neg (by have := he x; omega)).trans ?_
      show mark _ _ _ = _
      rw [he x]
    iapply wp_sqLd $$ Hsq; iintro Hsq
    iapply wp_sqLd $$ Hsq; iintro Hsq
    iapply (wp_sqSt (partF m d L (16 * (t.val + 1))) ?_ ?_) $$ Hsq
    · intro x
      have hx : (x 0).val < 16 := (x 0).isLt
      refine (if_pos (by have := he x; omega)).trans ?_
      refine Eq.trans ?_ (pay6_eq (F := F) (offs m d) (base L) t.val (by omega) t rfl c _ hv hc x).symm
      show place _ _ _ = _
      rw [he x]
    · intro i hi
      rw [ho] at hi
      show (if (i 0).val < 16 * (t.val + 1) then _ else _) = if (i 0).val < 16 * t.val then _ else _
      by_cases h : (i 0).val < 16 * t.val
      · rw [if_pos h, if_pos (by omega)]
      · rw [if_neg h, if_neg (by omega)]
    iintro Hsq
    iapply wp_done
    isplitr
    · ipureintro
      exact pay7_eq (F := F) (offs m d) (base L) t.val (by omega) c _ hv hc
    iexact Hsq
  · unfold Pl
    isplitr; · ipureintro; exact hc
    rw [show partF m d L (16 * 0) = markF m d L from funext fun i => if_neg (by omega)]
    iexact Hsq
  iintro %c' H
  have ht : Scf.trips k0_t2_loop.lb k0_t2_loop.ub k0_t2_loop.st = 64 := trips2
  rw [ht]
  unfold Pl
  icases H with ⟨-, Hsq⟩
  rw [show partF m d L (16 * 64) = idxF m d L from funext fun i => if_pos (i 0).isLt]
  ispecialize Hk $$ %c'
  iapply Hk; iexact Hsq

end Tile

end Cert.Proof.Body

end
-- ==== Proof.Tile.lean ====
/-
  A tile's first two parts: the copies it starts with, and the places it gathers at, up to the first of the gather's steps.
-/
module

public import proofs.«01_k».proof.Proof.Loops
public import proofs.«01_k».proof.Proof.Gen.KernelIdeal.Skeleton

@[expose] public section

noncomputable section

namespace Cert.Proof.Body

open Cert.KernelIdeal Cert.KernelIdeal.Gen Cert.Proof.Positions

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ (UU F) ℕ

local notation "valV" => (Memref.whole main_arg0_scv : Memref Cert.KernelIdeal.sig Kind.scVector Space.hbm S16384 EltTy.i32)
local notation "offV" => (Memref.whole main_arg1_scv : Memref Cert.KernelIdeal.sig Kind.scVector Space.hbm S17 EltTy.i32)
local notation "pwV" => (Memref.whole main_arg2_scv : Memref Cert.KernelIdeal.sig Kind.scVector Space.hbm S16384 EltTy.f32)
local notation "vrV" => (Memref.whole main_v0_0_scv : Memref Cert.KernelIdeal.sig Kind.scVector Space.hbm S16384 EltTy.i32)
local notation "orV" => (Memref.whole main_v0_1_scv : Memref Cert.KernelIdeal.sig Kind.scVector Space.hbm S17 EltTy.i32)
local notation "wrV" => (Memref.whole main_v0_2_scv : Memref Cert.KernelIdeal.sig Kind.scVector Space.hbm S16384 EltTy.f32)
local notation "osV" => (Memref.whole cc0_scratch0 : Memref Cert.KernelIdeal.sig Kind.scVector Space.vmem S16 EltTy.i32)
local notation "psV" => (Memref.whole cc0_scratch1 : Memref Cert.KernelIdeal.sig Kind.scVector Space.vmem S16384 EltTy.f32)
local notation "sqV" => (Memref.whole cc0_scratch2 : Memref Cert.KernelIdeal.sig Kind.scVector Space.vmem S1024 EltTy.i32)
local notation "ouV" => (Memref.whole cc0_scratch3 : Memref Cert.KernelIdeal.sig Kind.scVector Space.vmem S1024 EltTy.f32)

section Tile

variable {m : (ℓ : Loc nD τ sig) → Buf (Elt F) ℓ} {d : Dev nD} {L : grid0.Coords}
variable {O : CellTallies nD τ sig (HIx 1)} {W : Waits sig (HIx 1)}
variable {f₀ : S1024.Idx → Elt F .f32}

/-- The tile's first position, as the program computes it. -/
abbrev v2L (L : grid0.Coords) : BitVec 32 :=
  Scalar.muli (Scalar.addi (Scalar.muli (BitVec.ofNat 32 (L 1).val) 1#32) (BitVec.ofNat 32 (L 0).val)) 1024#32

/-- The last segment start at or before it, which the second loop starts from. -/
abbrev v17L (m : (ℓ : Loc nD τ sig) → Buf (Elt F) ℓ) (d : Dev nD) (L : grid0.Coords) : BitVec 32 :=
  extractAt ![15] (k0_pay2 (F := F) L (offs m d)) inpos_S16_p15

set_option maxHeartbeats 4000000 in
/-- The first part: the copies sent, the first sixteen offsets fetched, the segment starts scattered. -/
theorem wp_part1 {Q : (Σ' (_ : BitVec 32), BitVec 32) → sProp (MT nD τ sig (HIx 1) (Elt F) ℕ (UU F) ℕ)} :
    iprop(MayWaits (thr d L) (default : HIx 1) O ∗ wmOn F
        ∗ ((vLoc d ↦[tileSet (jL L)]{fullShare} m (vLoc d)) ∗ (vrLoc d ↦[tileSet (jL L)]{fullShare} m (vrLoc d)) ∗ semVal (thr d L, .dma cc0_scratch6.sem) 0)
        ∗ ((pLoc d ↦{xq (jL L)} m (pLoc d)) ∗ (∃ f, psLoc d L ↦{fullShare} f) ∗ semVal (thr d L, .dma cc0_scratch4.sem) 0)
        ∗ ((oLoc d ↦{(xq (jL L)).left} m (oLoc d)) ∗ orWm m d (xq (jL L)) ∅ ∗ semVal (thr d L, .dma cc0_scratch7.sem) 0)
        ∗ ((oLoc d ↦{(xq (jL L)).right} m (oLoc d)) ∗ (∃ f, osLoc d L ↦{fullShare} f) ∗ semVal (thr d L, .dma cc0_scoped0.sem) 0)
        ∗ (∃ f : S1024.Idx → Elt F .i32, sqLoc d L ↦{fullShare} f) ∗ Ow d L O W)
      ⊢ iprop((iprop(FlV m d L ∗ FlP m d L ∗ FlO m d L
            ∗ ((oLoc d ↦{(xq (jL L)).right} m (oLoc d)) ∗ (∃ f, osLoc d L ↦{fullShare} f) ∗ semVal (thr d L, .dma cc0_scoped0.sem) 0)
            ∗ (sqLoc d L ↦{fullShare} markF m d L) ∗ Ow d L O W) -∗ Q ⟨v2L L, v17L m d L⟩)
      -∗ wpT d L (k0_part1 L valV (Memref.isWhole_whole _) offV (Memref.isWhole_whole _) pwV (Memref.isWhole_whole _) vrV (Memref.isWhole_whole _) orV (Memref.isWhole_whole _) wrV (Memref.isWhole_whole _)
      osV (Memref.isWhole_whole _) psV (Memref.isWhole_whole _) sqV (Memref.isWhole_whole _) ouV (Memref.isWhole_whole _) cc0_scratch4 cc0_scratch5 cc0_scratch6 cc0_scratch7 cc0_scoped0) Q) := by
  simp only [k0_part1_eq_skeleton]; unfold k0_part1_skel
  iintro ⟨#Hmw, Hwm, ⟨Hv, Hvr, Hsv⟩, ⟨Hp, ⟨%fp, Hps⟩, Hsp⟩, ⟨Ho, Hor, Hso⟩, ⟨Ho', ⟨%fs, Hos⟩, Hs0⟩, Hsq, HO⟩ Hk
  iapply wp_enqP $$ [Hp Hps Hsp]
  · isplitl [Hp]; · iexact Hp
    isplitl [Hps] <;> iassumption
  iintro HfP
  iapply (wp_enqV (off_at (k := 0) (k0_off1_eq L))) $$ [Hv Hvr Hsv]
  · isplitl [Hv]; · iexact Hv
    isplitl [Hvr] <;> iassumption
  iintro HfV
  iapply wp_enqO $$ [Hwm Ho Hor Hso]
  · isplitl [Hwm]; · iexact Hwm
    isplitl [Ho]; · iexact Ho
    isplitl [Hor] <;> iassumption
  iintro HfO
  iapply (wp_sync (f := fs)) $$ [Ho' Hos Hs0 HO]
  · isplitr; · iexact Hmw
    isplitl [Ho']; · iexact Ho'
    isplitl [Hos]; · iexact Hos
    isplitl [Hs0] <;> iassumption
  iintro ⟨Ho', Hos, Hs0, HO⟩
  have hread : (((osV).access (Rect.unit (s := S16) ![0] S16.size inb_S16_S16_0)).read (Elt F) (offs m d : S16.Idx → Elt F .i32)) = offs m d := by
    funext x
    show offs m d ((Rect.unit (s := S16) ![0] S16.size inb_S16_S16_0).emb x) = offs m d x
    congr 1
    funext a; obtain rfl := Fin.eq_zero a
    exact Fin.ext ((emb_rect (n := 16) ![0] S16.size _ x).trans (Nat.zero_add _))
  iapply (wp_load_rect (defs := defs₀ (F := F)) 𝒱₀ (thr d L) none Set.univ (m := osV) (r := Rect.unit (s := S16) ![0] S16.size inb_S16_S16_0) (S := Finset.univ) (Finset.subset_univ _)) $$ Hos
  iintro Hos
  rw [hread]
  iapply wp_zero $$ Hsq
  iintro Hsq
  iapply (wp_assume 𝒱₀ (thr d L) none Set.univ (chk1 L (offs m d)))
  iapply wp_scatter $$ Hsq
  iintro Hsq
  iapply wp_done
  iapply Hk
  isplitl [HfV]; · iexact HfV
  isplitl [HfP]; · iexact HfP
  isplitl [HfO]; · iexact HfO
  isplitl [Ho' Hos Hs0]
  · isplitl [Ho']; · iexact Ho'
    isplitl [Hos]; · iexists _; iexact Hos
    iexact Hs0
  isplitl [Hsq] <;> iassumption

set_option maxHeartbeats 4000000 in
/-- The second part: the places found, `position_weight` in, the first seven groups. -/
theorem wp_part2 {Q : (Σ' (v52 : Vec F S16 .i32), k0_chk9 v52) → sProp (MT nD τ sig (HIx 1) (Elt F) ℕ (UU F) ℕ)} :
    iprop(MayWaits (thr d L) (default : HIx 1) O ∗ FlP m d L ∗ (sqLoc d L ↦{fullShare} markF m d L) ∗ (ouLoc d L ↦{fullShare} f₀)
        ∗ (wrLoc d ↦[tileSet (jL L)]{fullShare} m (wrLoc d))
        ∗ Batch countersEmb (thr d L) (.dma cc0_scratch5.sem) (default : HIx 1) rowN (rowD m d L) 0 0 ∗ Ow d L O W)
      ⊢ iprop((∀ h, iprop(St m d L f₀ 112 0 ∗ (pLoc d ↦{xq (jL L)} m (pLoc d)) ∗ semVal (thr d L, .dma cc0_scratch4.sem) 0 ∗ Ow d L O W)
            -∗ Q ⟨idxAtN m d L 112, h⟩)
      -∗ wpT d L (k0_part2 L valV (Memref.isWhole_whole _) offV (Memref.isWhole_whole _) pwV (Memref.isWhole_whole _) vrV (Memref.isWhole_whole _) orV (Memref.isWhole_whole _) wrV (Memref.isWhole_whole _)
      osV (Memref.isWhole_whole _) psV (Memref.isWhole_whole _) sqV (Memref.isWhole_whole _) ouV (Memref.isWhole_whole _) cc0_scratch4 cc0_scratch5 cc0_scratch6 cc0_scratch7 cc0_scoped0 (v2L L) (v17L m d L)) Q) := by
  simp only [k0_part2_eq_skeleton]; unfold k0_part2_skel
  iintro ⟨#Hmw, HfP, Hsq, Hou, Hwr, HB, HO⟩ Hk
  iapply (wp_places (base_eq L) (carry0_eq (F := F) L (offs m d))) $$ Hsq
  iintro %c Hsq
  unfold FlP
  iapply (wp_wait (rfl : (psV).view.dmaCredit = _)) $$ [HfP HO]
  · isplitr; · iexact Hmw
    isplitl [HfP] <;> iassumption
  iintro ⟨⟨Hps, Hp⟩, Hsp, HO⟩
  ihave H := (show iprop((sqLoc d L ↦{fullShare} (idxF m d L : S1024.Idx → Elt F .i32)) ∗ (psLoc d L ↦{fullShare} (m (pLoc d) : S16384.Idx → Elt F .f32))
      ∗ (ouLoc d L ↦{fullShare} f₀) ∗ (wrLoc d ↦[tileSet (jL L)]{fullShare} m (wrLoc d))
      ∗ Batch countersEmb (thr d L) (.dma cc0_scratch5.sem) (default : HIx 1) rowN (rowD m d L) 0 0) ⊢ St m d L f₀ 0 0 by
    unfold St
    rw [show mixF m d L f₀ 0 = f₀ from funext fun i => if_neg (by omega), Nat.mul_zero, Nat.add_zero, span_univ (n := 1024)]
    exact Entails.rfl) $$ [Hsq Hps Hou Hwr HB]
  · isplitl [Hsq]; · iexact Hsq
    isplitl [Hps]; · iexact Hps
    isplitl [Hou]; · iexact Hou
    isplitl [Hwr] <;> iassumption
  iterate 7 (iapply (wp_group _ (by omega) (by omega) (fun _ h => h)) $$ H; iintro H)
  iapply (wp_idx 112 (by omega) (fun _ h => h)) $$ H; iintro %h H
  iapply wp_done
  ispecialize Hk $$ %h.down
  iapply Hk
  isplitl [H]; · iexact H
  isplitl [Hp]; · iexact Hp
  isplitl [Hsp] <;> iassumption

end Tile

end Cert.Proof.Body

end
-- ==== Proof.Body.lean ====
/-
  A tile's whole task, from what the task takes to what it hands back, the tile's own buffers and semaphores as they were found.
-/
module

public import proofs.«01_k».proof.Proof.Tile
public import proofs.«01_k».proof.Proof.Gen.KernelIdeal.Skeleton

@[expose] public section

noncomputable section

namespace Cert.Proof.Body

open Cert.KernelIdeal Cert.KernelIdeal.Gen Cert.Proof.Positions

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ (UU F) ℕ

local notation "valV" => (Memref.whole main_arg0_scv : Memref Cert.KernelIdeal.sig Kind.scVector Space.hbm S16384 EltTy.i32)
local notation "offV" => (Memref.whole main_arg1_scv : Memref Cert.KernelIdeal.sig Kind.scVector Space.hbm S17 EltTy.i32)
local notation "pwV" => (Memref.whole main_arg2_scv : Memref Cert.KernelIdeal.sig Kind.scVector Space.hbm S16384 EltTy.f32)
local notation "vrV" => (Memref.whole main_v0_0_scv : Memref Cert.KernelIdeal.sig Kind.scVector Space.hbm S16384 EltTy.i32)
local notation "orV" => (Memref.whole main_v0_1_scv : Memref Cert.KernelIdeal.sig Kind.scVector Space.hbm S17 EltTy.i32)
local notation "wrV" => (Memref.whole main_v0_2_scv : Memref Cert.KernelIdeal.sig Kind.scVector Space.hbm S16384 EltTy.f32)
local notation "osV" => (Memref.whole cc0_scratch0 : Memref Cert.KernelIdeal.sig Kind.scVector Space.vmem S16 EltTy.i32)
local notation "psV" => (Memref.whole cc0_scratch1 : Memref Cert.KernelIdeal.sig Kind.scVector Space.vmem S16384 EltTy.f32)
local notation "sqV" => (Memref.whole cc0_scratch2 : Memref Cert.KernelIdeal.sig Kind.scVector Space.vmem S1024 EltTy.i32)
local notation "ouV" => (Memref.whole cc0_scratch3 : Memref Cert.KernelIdeal.sig Kind.scVector Space.vmem S1024 EltTy.f32)

section Tile

variable (m : (ℓ : Loc nD τ sig) → Buf (Elt F) ℓ) (d : Dev nD) (L : grid0.Coords)

/-! ## The tile's own semaphores and buffers -/

/-- A DMA semaphore's cell on the tile. -/
abbrev cell (a : DmaSem sig) : GSem nD τ sig := (thr d L, .dma a)

theorem cell_ne {a b : DmaSem sig} (h : (SemLoc.dma a : SemLoc sig) ≠ .dma b) : cell d L a ≠ cell d L b :=
  fun e => h (congrArg Prod.snd e)

theorem cell_mem {a : DmaSem sig} (h : (SemLoc.dma a : SemLoc sig).isScoped .scVector = true) : cell d L a ∈ ownCells (thr d L) :=
  mem_ownCells.mpr ⟨rfl, h⟩

/-- The semaphores the task does not use. -/
abbrev restCells : Finset (GSem nD τ sig) :=
  (((((ownCells (thr d L)).erase (cell d L cc0_scratch4.sem)).erase (cell d L cc0_scratch5.sem)).erase (cell d L cc0_scratch6.sem)).erase
    (cell d L cc0_scratch7.sem)).erase (cell d L cc0_scoped0.sem)

theorem ownSems0_V : (ownSems0 (thr d L) : sProp 𝕄)
    = iprop(semVal (cell d L cc0_scratch4.sem) 0 ∗ semVal (cell d L cc0_scratch5.sem) 0 ∗ semVal (cell d L cc0_scratch6.sem) 0
        ∗ semVal (cell d L cc0_scratch7.sem) 0 ∗ semVal (cell d L cc0_scoped0.sem) 0 ∗ bigSep (restCells d L) fun g => semVal g 0) := by
  have h4 := cell_mem d L (a := cc0_scratch4.sem) (by decide)
  have h5 := cell_mem d L (a := cc0_scratch5.sem) (by decide)
  have h6 := cell_mem d L (a := cc0_scratch6.sem) (by decide)
  have h7 := cell_mem d L (a := cc0_scratch7.sem) (by decide)
  have h0 := cell_mem d L (a := cc0_scoped0.sem) (by decide)
  have n54 := cell_ne d L (a := cc0_scratch5.sem) (b := cc0_scratch4.sem) (by decide)
  have n64 := cell_ne d L (a := cc0_scratch6.sem) (b := cc0_scratch4.sem) (by decide)
  have n65 := cell_ne d L (a := cc0_scratch6.sem) (b := cc0_scratch5.sem) (by decide)
  have n74 := cell_ne d L (a := cc0_scratch7.sem) (b := cc0_scratch4.sem) (by decide)
  have n75 := cell_ne d L (a := cc0_scratch7.sem) (b := cc0_scratch5.sem) (by decide)
  have n76 := cell_ne d L (a := cc0_scratch7.sem) (b := cc0_scratch6.sem) (by decide)
  have n04 := cell_ne d L (a := cc0_scoped0.sem) (b := cc0_scratch4.sem) (by decide)
  have n05 := cell_ne d L (a := cc0_scoped0.sem) (b := cc0_scratch5.sem) (by decide)
  have n06 := cell_ne d L (a := cc0_scoped0.sem) (b := cc0_scratch6.sem) (by decide)
  have n07 := cell_ne d L (a := cc0_scoped0.sem) (b := cc0_scratch7.sem) (by decide)
  unfold SparseCore.Cfg.ownSems0
  rw [SparseCore.bigSep_erase' h4, SparseCore.bigSep_erase' (Finset.mem_erase.mpr ⟨n54, h5⟩),
    SparseCore.bigSep_erase' (Finset.mem_erase.mpr ⟨n65, Finset.mem_erase.mpr ⟨n64, h6⟩⟩),
    SparseCore.bigSep_erase' (Finset.mem_erase.mpr ⟨n76, Finset.mem_erase.mpr ⟨n75, Finset.mem_erase.mpr ⟨n74, h7⟩⟩⟩),
    SparseCore.bigSep_erase' (Finset.mem_erase.mpr ⟨n07, Finset.mem_erase.mpr ⟨n06, Finset.mem_erase.mpr ⟨n05, Finset.mem_erase.mpr ⟨n04, h0⟩⟩⟩⟩)]

/-- A buffer of the tile's. -/
abbrev buf (b : Ref sig .scVector) : DevRef τ sig := (Proc.scVector (cV L) (jV L)).devRef b

theorem buf_ne {a b : Ref sig .scVector} (h : a ≠ b) : buf L a ≠ buf L b := fun e => h (Proc.devRef_injective _ e)

/-- The buffers the task does not use. -/
abbrev restBufs : Finset (DevRef τ sig) :=
  ((((ownRefs (τ := τ) (sig := sig) (.scVector (cV L) (jV L))).erase (buf L cc0_scratch0)).erase (buf L cc0_scratch1)).erase (buf L cc0_scratch2)).erase (buf L cc0_scratch3)

theorem ownBufs_V : (ownBufs (thr d L) : sProp 𝕄)
    = iprop((∃ f, osLoc d L ↦{fullShare} f) ∗ (∃ f, psLoc d L ↦{fullShare} f) ∗ (∃ f, sqLoc d L ↦{fullShare} f) ∗ (∃ f, ouLoc d L ↦{fullShare} f)
        ∗ bigSep (restBufs L) fun b => iprop(∃ f, ((d, b) : Loc nD τ sig) ↦{fullShare} f)) := by
  have h0 := SparseCore.Cfg.mem_ownRefs_of_owner (p := Proc.scVector (cV L) (jV L)) (b := buf L cc0_scratch0) rfl
  have h1 := SparseCore.Cfg.mem_ownRefs_of_owner (p := Proc.scVector (cV L) (jV L)) (b := buf L cc0_scratch1) rfl
  have h2 := SparseCore.Cfg.mem_ownRefs_of_owner (p := Proc.scVector (cV L) (jV L)) (b := buf L cc0_scratch2) rfl
  have h3 := SparseCore.Cfg.mem_ownRefs_of_owner (p := Proc.scVector (cV L) (jV L)) (b := buf L cc0_scratch3) rfl
  have n10 := buf_ne L (a := cc0_scratch1) (b := cc0_scratch0) (by decide)
  have n20 := buf_ne L (a := cc0_scratch2) (b := cc0_scratch0) (by decide)
  have n21 := buf_ne L (a := cc0_scratch2) (b := cc0_scratch1) (by decide)
  have n30 := buf_ne L (a := cc0_scratch3) (b := cc0_scratch0) (by decide)
  have n31 := buf_ne L (a := cc0_scratch3) (b := cc0_scratch1) (by decide)
  have n32 := buf_ne L (a := cc0_scratch3) (b := cc0_scratch2) (by decide)
  unfold SparseCore.Cfg.ownBufs
  refine (SparseCore.bigSep_erase' h0).trans ?_
  rw [SparseCore.bigSep_erase' (Finset.mem_erase.mpr ⟨n10, h1⟩),
    SparseCore.bigSep_erase' (Finset.mem_erase.mpr ⟨n21, Finset.mem_erase.mpr ⟨n20, h2⟩⟩),
    SparseCore.bigSep_erase' (Finset.mem_erase.mpr ⟨n32, Finset.mem_erase.mpr ⟨n31, Finset.mem_erase.mpr ⟨n30, h3⟩⟩⟩)]

/-! ## The task -/

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ wmOn F ∗ goP m d (jL L)
        ∗ scopedBufs (thr d L) ∗ scopedSems0 (thr d L) ∗ owes (thr d L) O W)
      ⊢ wpT d L (cc0_body L valV (Memref.isWhole_whole _) offV (Memref.isWhole_whole _) pwV (Memref.isWhole_whole _) vrV (Memref.isWhole_whole _) orV (Memref.isWhole_whole _) wrV (Memref.isWhole_whole _)
      osV (Memref.isWhole_whole _) psV (Memref.isWhole_whole _) sqV (Memref.isWhole_whole _) ouV (Memref.isWhole_whole _) cc0_scratch4 cc0_scratch5 cc0_scratch6 cc0_scratch7 cc0_scoped0) fun _ => iprop(tdP m d (jL L) ∗ scopedBufs (thr d L) ∗ scopedSems0 (thr d L)
            ∗ ∃ W', ⌜∀ p ∈ W', p ∈ W ∨ p.2 = none⌝ ∗ owes (thr d L) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  unfold goP tdP
  iintro ⟨#Hlv, Hwm, ⟨Hv, Ho, Hp, Hvr, Hor, Hwr⟩, ⟨Hos, Hps, Hsq, ⟨%f₀, Hou⟩, Hbufs⟩, ⟨Hs4, Hs5, Hs6, Hs7, Hs0, Hsems⟩, HO⟩
  ihave #Hmw := (show levAts (K (F := F)).L (K (F := F)).lev ⊢ Transfers.MayWaits (thr d L) (default : HIx 1) O from
    (K (F := F)).mayWaits_none (thr := thr d L) hO) $$ Hlv
  ihave Ho := (pointsTo_share (PosShare.mem_left_op_right (xq (jL L)))).1 $$ Ho
  icases Ho with ⟨Ho, Ho'⟩
  imod (batch_alloc' countersEmb (thr d L) (sm := .dma cc0_scratch5.sem) (default : HIx 1) rowN (rowD m d L)) $$ Hs5 with HB
  rw [wp_bind]
  iapply (wp_part1 (m := m) (d := d) (L := L) (O := O) (W := W)) $$ [Hwm Hv Hvr Hs6 Hp Hps Hs4 Ho Hor Hs7 Ho' Hos Hs0 Hsq HO]
  · isplitr; · iexact Hmw
    isplitl [Hwm]; · iexact Hwm
    isplitl [Hv Hvr Hs6]; · (isplitl [Hv]; · iexact Hv); isplitl [Hvr] <;> iassumption
    isplitl [Hp Hps Hs4]; · (isplitl [Hp]; · iexact Hp); isplitl [Hps] <;> iassumption
    isplitl [Ho Hor Hs7]; · (isplitl [Ho]; · iexact Ho); isplitl [Hor] <;> iassumption
    isplitl [Ho' Hos Hs0]; · (isplitl [Ho']; · iexact Ho'); isplitl [Hos] <;> iassumption
    isplitl [Hsq]; · iexact Hsq
    unfold Ow
    iexists W; isplitr
    · ipureintro; exact fun p hp => .inl hp
    iexact HO
  iintro ⟨HfV, HfP, HfO, ⟨Ho', Hos, Hs0⟩, Hsq, HO⟩
  rw [wp_bind]
  iapply (wp_part2 (m := m) (d := d) (L := L) (O := O) (W := W) (f₀ := f₀)) $$ [HfP Hsq Hou Hwr HB HO]
  · isplitr; · iexact Hmw
    isplitl [HfP]; · iexact HfP
    isplitl [Hsq]; · iexact Hsq
    isplitl [Hou]; · iexact Hou
    isplitl [Hwr]; · iexact Hwr
    isplitl [HB] <;> iassumption
  iintro %h ⟨H, Hp, Hs4, HO⟩
  rw [wp_bind]; iapply wp_part3 $$ H; iintro H
  rw [wp_bind]; iapply wp_part4 $$ H; iintro H
  rw [wp_bind]; iapply wp_part5 $$ H; iintro H
  rw [wp_bind]; iapply wp_part6 $$ H; iintro H
  rw [wp_bind]; iapply wp_part7 $$ H; iintro H
  rw [wp_bind]; iapply wp_part8 $$ H; iintro H
  rw [wp_bind]; iapply wp_part9 $$ H; iintro %h' H
  rw [wp_bind]
  iapply (wp_part10 (O := O) (W := W)) $$ [H HO]
  · isplitr; · iexact Hmw
    isplitl [H] <;> iassumption
  iintro ⟨Hsq, Hps, H⟩
  iapply (wp_wrow 1 (by omega)) $$ [H]; · (isplitr; · iexact Hmw); iexact H
  iintro H
  iapply (wp_wrow 2 (by omega)) $$ [H]; · (isplitr; · iexact Hmw); iexact H
  iintro H
  iapply (wp_wrow 3 (by omega)) $$ [H]; · (isplitr; · iexact Hmw); iexact H
  iintro H
  iapply (wp_wrow 4 (by omega)) $$ [H]; · (isplitr; · iexact Hmw); iexact H
  iintro H
  iapply (wp_wrow 5 (by omega)) $$ [H]; · (isplitr; · iexact Hmw); iexact H
  iintro H
  iapply (wp_wrow 6 (by omega)) $$ [H]; · (isplitr; · iexact Hmw); iexact H
  iintro H
  iapply wp_wlast $$ [H]; · (isplitr; · iexact Hmw); iexact H
  iintro ⟨H, Hs5, HO⟩
  ihave H := (rows_join (m := m) (d := d) (L := L)) $$ H
  icases H with ⟨Hwr, Hou⟩
  unfold FlV FlO
  iapply (wp_wait (rfl : ((vrV).slice (Rect.unit (s := S16384) (k0_off12 L) S1024.size (k0_off12_inb L)) (fun _ => rfl)).view.dmaCredit = _)) $$ [HfV HO]
  · isplitr; · iexact Hmw
    isplitl [HfV]; · iexact HfV
    iexact HO
  iintro ⟨⟨Hvr, Hv⟩, Hs6, HO⟩
  iapply (wp_wait (rfl : (orV).view.dmaCredit = _)) $$ [HfO HO]
  · isplitr; · iexact Hmw
    isplitl [HfO] <;> iassumption
  iintro ⟨⟨Hor, Ho⟩, Hs7, HO⟩
  iapply wp_done
  isplitl [Hv Ho Ho' Hp Hvr Hor Hwr]
  · isplitl [Hv]; · iexact Hv
    isplitl [Ho Ho']
    · iapply (pointsTo_share (PosShare.mem_left_op_right (xq (jL L)))).2
      isplitl [Ho] <;> iassumption
    isplitl [Hp]; · iexact Hp
    isplitl [Hvr]; · iexact Hvr
    isplitl [Hor]; · iexact Hor
    iexact Hwr
  isplitl [Hos Hps Hsq Hou Hbufs]
  · isplitl [Hos]; · iexact Hos
    isplitl [Hps]; · iexact Hps
    isplitl [Hsq]; · iexact Hsq
    isplitl [Hou]; · iexists _; iexact Hou
    iexact Hbufs
  isplitl [Hs4 Hs5 Hs6 Hs7 Hs0 Hsems]
  · isplitl [Hs4]; · iexact Hs4
    isplitl [Hs5]; · iexact Hs5
    isplitl [Hs6]; · iexact Hs6
    isplitl [Hs7]; · iexact Hs7
    isplitl [Hs0] <;> iassumption
  unfold Ow
  iexact HO

end Tile

end Cert.Proof.Body

end
-- ==== Proof.Launch.lean ====
/-
  The launch: a tile's obligation, what the call takes dealt to the tiles and joined again, @main around the call (the
  second result put into write mode before it and taken out after), and the program's run with the values it ends with.
-/
module

public import proofs.«01_k».proof.Proof.Body

@[expose] public section

noncomputable section

namespace Cert.Proof.Body

open Cert.KernelIdeal Cert.KernelIdeal.Gen Cert.Proof.Positions

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf sumEquiv leaf_inl leaf_inr pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ (UU F) ℕ
local notation "valV" => (Memref.whole main_arg0_scv : Memref Cert.KernelIdeal.sig Kind.scVector Space.hbm S16384 EltTy.i32)
local notation "offV" => (Memref.whole main_arg1_scv : Memref Cert.KernelIdeal.sig Kind.scVector Space.hbm S17 EltTy.i32)
local notation "pwV" => (Memref.whole main_arg2_scv : Memref Cert.KernelIdeal.sig Kind.scVector Space.hbm S16384 EltTy.f32)
local notation "vrV" => (Memref.whole main_v0_0_scv : Memref Cert.KernelIdeal.sig Kind.scVector Space.hbm S16384 EltTy.i32)
local notation "orV" => (Memref.whole main_v0_1_scv : Memref Cert.KernelIdeal.sig Kind.scVector Space.hbm S17 EltTy.i32)
local notation "wrV" => (Memref.whole main_v0_2_scv : Memref Cert.KernelIdeal.sig Kind.scVector Space.hbm S16384 EltTy.f32)
local notation "osV" => (Memref.whole cc0_scratch0 : Memref Cert.KernelIdeal.sig Kind.scVector Space.vmem S16 EltTy.i32)
local notation "psV" => (Memref.whole cc0_scratch1 : Memref Cert.KernelIdeal.sig Kind.scVector Space.vmem S16384 EltTy.f32)
local notation "sqV" => (Memref.whole cc0_scratch2 : Memref Cert.KernelIdeal.sig Kind.scVector Space.vmem S1024 EltTy.i32)
local notation "ouV" => (Memref.whole cc0_scratch3 : Memref Cert.KernelIdeal.sig Kind.scVector Space.vmem S1024 EltTy.f32)

variable (m : (ℓ : Loc nD τ sig) → Buf (Elt F) ℓ) (ρ : Dev nD → PrngReg)

/-! ## A tile's obligation -/

/-- The coordinates of a vector subcore. -/
def at2 (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0_body (at2 c s) valV (Memref.isWhole_whole _) offV (Memref.isWhole_whole _) pwV (Memref.isWhole_whole _) vrV (Memref.isWhole_whole _) orV (Memref.isWhole_whole _) wrV (Memref.isWhole_whole _)
      osV (Memref.isWhole_whole _) psV (Memref.isWhole_whole _) sqV (Memref.isWhole_whole _) ouV (Memref.isWhole_whole _) cc0_scratch4 cc0_scratch5 cc0_scratch6 cc0_scratch7 cc0_scoped0) ⟨⟩ c s := rfl

theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine BIClass.sep_mono Entails.rfl (BIClass.sep_mono Entails.rfl (BIClass.sep_mono Entails.rfl ?_))
  iintro ⟨%W', %h, HO⟩
  iexists W'; isplitr
  · ipureintro; exact fun p hp => (h p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body m d (at2 ⟨_, hci.1⟩ ⟨_, hci.2⟩) hF O W hO).trans (wp_mono frame _ _ fun _ => post_weaken)

/-! ## Dealing and joining -/

theorem tileSet_disjoint (i j : Fin 16) (h : i ≠ j) : Disjoint (tileSet i) (tileSet j) := span_disjoint_of_ne (n := 16384) i j h
theorem tileSet_cover : Finset.univ.biUnion tileSet = (Finset.univ : Finset S16384.Idx) :=
  span_cover (n := 16384) (k := 16) (c := 1024) rfl

/-- An array dealt to the tiles, a stretch each. -/
theorem tiles_eq {ℓ : Loc nD τ sig} {t : Fin 16 → Finset (Idx ℓ)} (hd : ∀ i j, i ≠ j → Disjoint (t i) (t j))
    (hc : Finset.univ.biUnion t = Finset.univ) (f : Buf (Elt F) ℓ) :
    (ℓ ↦{fullShare} f : sProp 𝕄) = bigSep Finset.univ fun i : Fin 16 => ℓ ↦[t i]{fullShare} f := by
  rw [← pointsTo_biUnion Finset.univ (ℓ := ℓ) (q := fullShare) (f := f) t (fun i _ j _ h => hd i j h), hc]

theorem tasks_eq (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem go_eq (d : Dev nD) : stP m d = bigSep Finset.univ (goP m d) := by
  unfold stP goP vPts oPts pPts vrPts wrPts orWm
  rw [bigSep_sep', bigSep_sep', bigSep_sep', bigSep_sep', bigSep_sep', tiles_eq (ℓ := vLoc d) tileSet_disjoint tileSet_cover, tiles_eq (ℓ := vrLoc d) tileSet_disjoint tileSet_cover, tiles_eq (ℓ := wrLoc d) tileSet_disjoint tileSet_cover,
    pointsTo_leaves (ℓ := oLoc d) Finset.univ (m (oLoc d)) 4 fullShare, pointsTo_leaves (ℓ := pLoc d) Finset.univ (m (pLoc d)) 4 fullShare,
    willBe_leaves (ℓ := orLoc d) Finset.univ _ _ _ 4 fullShare]
  rfl

theorem td_eq (d : Dev nD) : dnP m d = bigSep Finset.univ (tdP m d) := by
  unfold dnP tdP vPts oPts pPts vrPts wrPts orWm
  rw [bigSep_sep', bigSep_sep', bigSep_sep', bigSep_sep', bigSep_sep', tiles_eq (ℓ := vLoc d) tileSet_disjoint tileSet_cover, tiles_eq (ℓ := vrLoc d) tileSet_disjoint tileSet_cover, tiles_eq (ℓ := wrLoc d) tileSet_disjoint tileSet_cover,
    pointsTo_leaves (ℓ := oLoc d) Finset.univ (m (oLoc d)) 4 fullShare, pointsTo_leaves (ℓ := pLoc d) Finset.univ (m (pLoc d)) 4 fullShare,
    willBe_leaves (ℓ := orLoc d) Finset.univ _ _ _ 4 fullShare]
  rfl

theorem vecSplit : (K (F := F)).VecSplit' (P m) 0 := by
  intro d c
  show stP m d ⊢ |={Set.univ}=> iprop((bigSep Finset.univ fun i : Fin ((K (F := F)).nSub 0) => goP m d (Fin.cast nSub_zero i))
      ∗ ((bigSep Finset.univ fun i : Fin ((K (F := F)).nSub 0) => tdP m d (Fin.cast nSub_zero i)) -∗ dnP m d))
  rw [tasks_eq (goP m d), tasks_eq (tdP m d), go_eq, td_eq]
  iintro H; imodintro
  isplitl [H]; · iexact H
  iintro H; iexact H

/-! ## The launch's ghost state -/

def u₀ : UU F := (initOf (K (F := F)).hsCells (K (F := F)).hsToks, (wm₀ nD τ sig (Elt F), 1))

theorem hu₀ (ρ : Dev nD → PrngReg) : (ownU (u₀ (F := F)) : sProp 𝕄)
    ⊢ |={Set.univ}=> iprop(BI.own (EH (initOf (K (F := F)).hsCells (K (F := F)).hsToks)) ∗ (bigSep Finset.univ fun _ : Dev nD => wmOn F)
        ∗ bigSep Finset.univ fun thr : Thread nD τ => bigSep Finset.univ fun q : Fin 1 => (P m).x q thr) := by
  unfold u₀
  iintro Hu
  ihave H := (ownU_pair (initOf (K (F := F)).hsCells (K (F := F)).hsToks) ((wm₀ nD τ sig (Elt F), 1) : UW F × Counters)) $$ Hu
  icases H with ⟨HH, HR⟩
  ihave H := (own_pair_emb embR (wm₀ nD τ sig (Elt F)) (1 : Counters)) $$ HR
  icases H with ⟨HW, -⟩
  ihave HW := (show BI.own ((Emb.inl.trans embR) (wm₀ nD τ sig (Elt F))) ⊢ (ownU (EW (F := F) (wm₀ nD τ sig (Elt F))) : sProp 𝕄) from Entails.rfl) $$ HW
  imod (wmInv_alloc (emb := EW (F := F)) (⟨m, fun _ => 0, ρ⟩ : MemSt nD τ sig (Elt F))) $$ HW with ⟨%ι, -, #Hwm⟩
  imodintro
  isplitl [HH]; · iexact HH
  isplitr
  · iapply (bigSep_of_persistent (Finset.univ : Finset (Dev nD)) (wmOn F))
    iexists ι; iexact Hwm
  · iapply (bigSep_of_persistent (Finset.univ : Finset (Thread nD τ)) (bigSep Finset.univ fun _ : Fin 1 => wmOn F))
    iapply (bigSep_of_persistent (Finset.univ : Finset (Fin 1)) (wmOn F))
    iexists ι; iexact Hwm

/-! ## @main -/

theorem unscopedBufs_eq (d : Dev nD) (W : (b : Ref sig .tc) → Buf (Elt F) ((d.tc : Thread nD τ).loc b)) :
    (unscopedBufs d W : sProp 𝕄) = iprop((vLoc d ↦{fullShare} W main_arg0) ∗ (oLoc d ↦{fullShare} W main_arg1) ∗ (pLoc d ↦{fullShare} W main_arg2)
      ∗ (vrLoc d ↦{fullShare} W main_v0_0) ∗ (orLoc d ↦{fullShare} W main_v0_1) ∗ wrLoc d ↦{fullShare} W main_v0_2) := by
  unfold unscopedBufs
  rw [show (Finset.univ.filter fun b : Ref sig .tc => ¬ b.isScoped) = {main_arg0, main_arg1, main_arg2, main_v0_0, main_v0_1, main_v0_2} by decide,
    SparseCore.bigSep_insert' (by decide), SparseCore.bigSep_insert' (by decide), SparseCore.bigSep_insert' (by decide),
    SparseCore.bigSep_insert' (by decide), SparseCore.bigSep_insert' (by decide), bigSep_singleton]

theorem st_eq (d : Dev nD) : (bigSep Finset.univ fun c : Fin ((K (F := F)).nCore 0) => (P m).st 0 d c) = stP m d :=
  bigSep_univ_of_subsingleton (0 : Fin 1)
theorem dn_eq (d : Dev nD) : (bigSep Finset.univ fun c : Fin ((K (F := F)).nCore 0) => (P m).dn 0 d c) = dnP m d :=
  bigSep_univ_of_subsingleton (0 : Fin 1)

/-- What @main ends with: the arguments as they were, the three results. -/
abbrev FIN (d : Dev nD) : sProp 𝕄 :=
  iprop(vPts m d ∗ oPts m d ∗ pPts m d ∗ vrPts d (m (vLoc d)) ∗ (orLoc d ↦{fullShare} m (oLoc d)) ∗ wrPts d (weights m d))

theorem hmain (κ : GSem nD τ sig → ℕ) (d : Dev nD) :
    iprop((K (F := F)).ctx EH (P m) κ ∗ (K (F := F)).tcSt EH d 0 ∗ (K (F := F)).tcRes m ρ d ∗ wmOn F)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hv, Ho, Hp, Hvr, Hor, Hwr⟩, Hts, -⟩, %ι, #Hwm⟩
  imod (pointsTo_castIn (emb := EW (F := F)) (ιwm := ι) (ℓ := orLoc d) (I := Finset.univ) (f := m (orLoc d)) (E := Set.univ)
    (fun i : S17.Idx => some (m (oLoc d) i))) $$ [Hor] with Hor
  · isplitr; · iexact Hwm
    iexact Hor
  iapply ((K (F := F)).wp_run (D (F := F)) 𝒱 (EH := EH) (P := P m) κ d 0) $$ [Hst Hv Ho Hp Hvr Hor Hwr Hb Hts]
  isplitr; · iexact Hctx
  isplitl [Hst]; · iexact Hst
  isplitl [Hv Ho Hp Hvr Hor Hwr]
  · rw [st_eq]; unfold stP
    isplitl [Hv]; · iexact Hv
    isplitl [Ho]; · iexact Ho
    isplitl [Hp]; · iexact Hp
    isplitl [Hvr]; · iexact Hvr
    isplitl [Hor]; · iexact Hor
    iexact Hwr
  iintro ⟨Hst, Hdn⟩
  ihave Hdn' := (Entails.of_eq (dn_eq m d)) $$ Hdn
  unfold dnP
  icases Hdn' with ⟨Hv, Ho, Hp, Hvr, Hor, Hwr⟩
  imod (willBeTo_castOut_some (emb := EW (F := F)) (ιwm := ι) (ℓ := orLoc d) (I := Finset.univ) (f := m (orLoc d)) (E := Set.univ)
    (g := m (oLoc d)) (W := Finset.univ)) $$ [Hor] with Hor
  · isplitr; · iexact Hwm
    iexact Hor
  imodintro
  isplitl [Hst]; · iexact Hst
  isplitr [Hb Hts]
  · isplitl [Hv]; · iexact Hv
    isplitl [Ho]; · iexact Ho
    isplitl [Hp]; · iexact Hp
    isplitl [Hvr]; · iexact Hvr
    isplitl [Hor]
    · rw [Finset.piecewise_univ]; iexact Hor
    iexact Hwr
  isplitl [Hb] <;> iassumption

/-- The final memory's six arrays. -/
def fq (d : Dev nD) (s' : Phys nD τ sig (Elt F)) : Prop :=
  s'.mem.mem (vLoc d) = m (vLoc d) ∧ s'.mem.mem (oLoc d) = m (oLoc d) ∧ s'.mem.mem (pLoc d) = m (pLoc d)
    ∧ s'.mem.mem (vrLoc d) = m (vLoc d) ∧ s'.mem.mem (orLoc d) = m (oLoc d) ∧ s'.mem.mem (wrLoc d) = weights m d

/-- An array held whole is what the memory has there, and is kept. -/
theorem agree {s' : Phys nD τ sig (Elt F)} {ℓ : Loc nD τ sig} {f : Buf (Elt F) ℓ} {R : sProp 𝕄} :
    iprop(((ℓ ↦{fullShare} f) ∗ R) ∗ SI s') ⊢ iprop(⌜s'.mem.mem ℓ = f⌝ ∗ R ∗ SI s') := by
  iintro ⟨⟨H, HR⟩, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  isplitl [HR] <;> iassumption

set_option maxRecDepth 16384 in
theorem hfin (d : Dev nD) (s' : Phys nD τ sig (Elt F)) : iprop(FIN m d ∗ SI s') ⊢ (⌜fq m d s'⌝ : sProp 𝕄) := by
  iintro H
  ihave H := agree $$ H; icases H with ⟨%h1, H⟩
  ihave H := agree $$ H; icases H with ⟨%h2, H⟩
  ihave H := agree $$ H; icases H with ⟨%h3, H⟩
  ihave H := agree $$ H; icases H with ⟨%h4, H⟩
  ihave H := agree $$ H; icases H with ⟨%h5, H, HSI⟩
  ihave H := (SI_pointsTo_agree (st := s') (ℓ := wrLoc d) (I := Finset.univ) (q := fullShare) (f := weights m d)) $$ [H HSI]
  · isplitl [HSI] <;> iassumption
  icases H with %h6
  ipureintro; exact ⟨h1, h2, h3, h4, h5, funext fun i => h6 i (Finset.mem_univ i)⟩

/-! ## The run -/

/-- How the program ends. -/
def QC : PUnit × MemSt nD τ sig (Elt F) → Prop := fun r =>
  (∀ d : Dev nD, r.2.mem (vLoc d) = m (vLoc d) ∧ r.2.mem (oLoc d) = m (oLoc d) ∧ r.2.mem (pLoc d) = m (pLoc d)
    ∧ r.2.mem (vrLoc d) = m (vLoc d) ∧ r.2.mem (orLoc d) = m (oLoc d) ∧ r.2.mem (wrLoc d) = weights m d) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => wmOn F) (FIN m) (u₀ (F := F)) (sep_elim_left.trans (hu₀ m ρ)) (hmain m ρ) (fq m) (hfin m) (QC m) (fun _ h hz => ⟨h, hz⟩)

end Cert.Proof.Body

end
-- ==== Proof.Value.lean ====
/-
  What the reference computes. Under the precondition the seventeen offsets start at zero and do not decrease, so the
  number of them at or below a position, less one and clipped, names the last segment start at or below it: the same
  start the kernel's running maximum finds, and the weights are the kernel's weights.
-/
module

public import proofs.«01_k».proof.Proof.Gen.ReferenceIdeal.Run
public import proofs.«01_k».proof.Proof.Gen.ReferenceIdeal.Read
public import proofs.«01_k».proof.Pre_valid_offsets
public import proofs.«01_k».proof.Proof.Positions
public import Idealize.ShloMosaic.Lib.StableHlo.Predicate
public import Idealize.ShloMosaic.Lib.ReduceAll
public import Idealize.ShloMosaic.Lib.Pipeline.Value
public import Mathlib.Order.Interval.Finset.Fin

@[expose] public section

noncomputable section

namespace Cert.Proof.Value

open Idealize.ShloMosaic
open Idealize.ShloMosaic.StableHlo.Predicate (gather_take toNat_reduce_count_cols cmpi_eq_iff ixP ij)
open Cert.ReferenceIdeal Cert.ReferenceIdeal.Gen Cert.ReferenceIdeal.Read
open Cert.Proof.Positions (lastStart lastStart_le_iff le_lastStart lastStart_succ_le toInt_ofNat_small toInt_maxsi cmpi_one)

variable {F : FTy → Type} [FloatOps F]

/-! ## The precondition -/

/-- The offset table begins at zero and does not decrease. -/
def Sorted (x : S17.Idx → BitVec 32) : Prop :=
  (x (Shape.Idx.ofFin 0)).toInt = 0 ∧ ∀ a b : Fin 17, a ≤ b → (x (Shape.Idx.ofFin a)).toInt ≤ (x (Shape.Idx.ofFin b)).toInt

/-- The precondition's own side conditions. -/
instance pre_facts : Cert.Pre_valid_offsets.Facts where
  slices_S17_S1_0 := by decide
  bcast_S_S1 := by decide
  slices_S17_S16_0 := by decide
  slices_S17_S16_1 := by decide
  concatenates_S1_S16_S17_d0 := by decide

theorem sorted_of_pre (a : IVec S16384 32) (x : IVec S17 32) (w : FVec F S16384 .f32)
    (h : Cert.Pre_valid_offsets.fn a x w = fun _ => 1#1) : Sorted x := by
  have h0 : (x (Shape.Idx.ofFin 0)).toInt = 0 := by
    have hk : cmpi .eq (extractStridedSlice Pre_valid_offsets.S1 ![0] x pre_facts.slices_S17_S1_0)
        (broadcastInDim Pre_valid_offsets.S1 ![] pre_facts.bcast_S_S1 (constantI Pre_valid_offsets.S_ 32 0#32)) (Shape.Idx.ofFin 0) = 1#1 :=
      (concatenate_pair_apply_left (t := S17) (s₁ := Pre_valid_offsets.S1) (s₂ := Pre_valid_offsets.S16) (0 : Fin 1) _ _ pre_facts.concatenates_S1_S16_S17_d0 (Shape.Idx.ofFin 0)
        rfl (Shape.Idx.ofFin 0) (fun b => by obtain rfl := Fin.eq_zero b; rfl)).symm.trans (congrFun h (Shape.Idx.ofFin 0))
    have hk' := cmpi_eq_iff.mp (show IntOp.cmpi .eq _ _ = 1#1 from hk)
    rw [extractStridedSlice_apply (t := Pre_valid_offsets.S1) ![0] x _ _ (Shape.Idx.ofFin 0) (fun b => by obtain rfl := Fin.eq_zero b; rfl),
      show broadcastInDim Pre_valid_offsets.S1 ![] pre_facts.bcast_S_S1 (constantI Pre_valid_offsets.S_ 32 0#32) (Shape.Idx.ofFin 0) = 0#32 from rfl] at hk'
    rw [hk']; rfl
  have hstep : ∀ k : Fin 16, (x (Shape.Idx.ofFin k.castSucc)).toInt ≤ (x (Shape.Idx.ofFin k.succ)).toInt := by
    intro k
    have hk : cmpi .sle (extractStridedSlice Pre_valid_offsets.S16 ![0] x pre_facts.slices_S17_S16_0)
        (extractStridedSlice Pre_valid_offsets.S16 ![1] x pre_facts.slices_S17_S16_1) (Shape.Idx.ofFin k) = 1#1 :=
      (concatenate_pair_apply_right (t := S17) (s₁ := Pre_valid_offsets.S1) (s₂ := Pre_valid_offsets.S16) (0 : Fin 1) _ _ pre_facts.concatenates_S1_S16_S17_d0 (Shape.Idx.ofFin k.succ)
        rfl rfl (Shape.Idx.ofFin k) (fun b hb => absurd (Fin.eq_zero _) hb) rfl).symm.trans (congrFun h (Shape.Idx.ofFin k.succ))
    have hk' := (cmpi_one .sle _ _).mp (show IntOp.cmpi .sle _ _ = 1 from hk)
    rw [extractStridedSlice_apply (t := Pre_valid_offsets.S16) ![0] x _ _ (Shape.Idx.ofFin k.castSucc)
        (fun b => by obtain rfl := Fin.eq_zero b; exact (Nat.zero_add _).symm),
      extractStridedSlice_apply (t := Pre_valid_offsets.S16) ![1] x _ _ (Shape.Idx.ofFin k.succ)
        (fun b => by obtain rfl := Fin.eq_zero b; exact Nat.add_comm _ _)] at hk'
    simpa [BitVec.sle] using hk'
  exact ⟨h0, fun a b hab => (Fin.monotone_iff_le_succ (f := fun q : Fin 17 => (x (Shape.Idx.ofFin q)).toInt)).mpr hstep hab⟩

/-! ## The segment of a position -/

/-- The first sixteen offsets, the segment starts. -/
def starts (x : S17.Idx → BitVec 32) : IVec (⟨1, ![16]⟩ : Shape) 32 :=
  fun y => x (Shape.Idx.ofFin ⟨(y 0).val, Nat.lt_trans (y 0).isLt (by decide)⟩)

/-- The members of a down-closed set of positions are those below its size. -/
theorem mem_iff_lt_card {n : ℕ} (A : Finset (Fin n)) (h : ∀ a b : Fin n, a ≤ b → b ∈ A → a ∈ A) (q : Fin n) : q ∈ A ↔ q.val < A.card := by
  constructor
  · intro hq
    have := Finset.card_le_card (show Finset.Iic q ⊆ A from fun a ha => h a q (Finset.mem_Iic.mp ha) hq)
    rw [Fin.card_Iic] at this; omega
  · intro hq
    by_contra hn
    have := Finset.card_le_card (show A ⊆ Finset.Iio q from fun a ha => Finset.mem_Iio.mpr (by
      by_contra hc; exact hn (h q a (not_lt.mp hc) ha)))
    rw [Fin.card_Iio] at this; omega

/-- How many offsets lie at or below a position. -/
def below (x : S17.Idx → BitVec 32) (j : ℕ) : Finset (Fin 17) := Finset.univ.filter fun q => (x (Shape.Idx.ofFin q)).toInt ≤ j

theorem mem_below {x : S17.Idx → BitVec 32} (hx : Sorted x) (j : ℕ) (q : Fin 17) :
    (x (Shape.Idx.ofFin q)).toInt ≤ j ↔ q.val < (below x j).card := by
  rw [← mem_iff_lt_card (below x j) (fun a b hab hb => by
    unfold below at hb ⊢
    rw [Finset.mem_filter] at hb ⊢
    exact ⟨Finset.mem_univ _, (hx.2 a b hab).trans hb.2⟩)]
  unfold below; simp

/-- The segment number of a position, clipped. -/
def seg (x : S17.Idx → BitVec 32) (j : ℕ) : Fin 17 := ⟨min ((below x j).card - 1) 15, by omega⟩

/-- The offset at a position's segment number is the last start at or below it. -/
theorem seg_start {x : S17.Idx → BitVec 32} (hx : Sorted x) (j : ℕ) :
    (x (Shape.Idx.ofFin (seg x j))).toInt = lastStart (starts x) (j + 1) := by
  have hC : 0 < (below x j).card := (mem_below hx j 0).mp (by rw [hx.1]; omega)
  have hs : (seg x j).val = min ((below x j).card - 1) 15 := rfl
  have hle : (x (Shape.Idx.ofFin (seg x j))).toInt ≤ j := (mem_below hx j _).mpr (by omega)
  have h0 : 0 ≤ (x (Shape.Idx.ofFin (seg x j))).toInt := by rw [← hx.1]; exact hx.2 _ _ (Fin.zero_le _)
  apply le_antisymm
  · have := le_lastStart (starts x) (j + 1) (Shape.Idx.ofFin ⟨(seg x j).val, by omega⟩)
    exact this (show (x (Shape.Idx.ofFin (seg x j))).toInt < _ by omega)
  · have : lastStart (starts x) (j + 1) ≤ (x (Shape.Idx.ofFin (seg x j))).toInt.toNat := by
      rw [lastStart_le_iff]
      intro k hk
      have hk16 : (k 0).val < 16 := (k 0).isLt
      have e : starts x k = x (Shape.Idx.ofFin ⟨(k 0).val, by omega⟩) := rfl
      rw [e] at hk ⊢
      have hkC := (mem_below hx j ⟨(k 0).val, by omega⟩).mp (by push_cast at hk; omega)
      have := hx.2 ⟨(k 0).val, by omega⟩ (seg x j) (Fin.mk_le_of_le_val (by simp only at hkC; omega))
      omega
    omega

/-! ## The reference's stages -/

theorem toInt_minsi (x y : BitVec 32) : (IntOp.minsi x y).toInt = min x.toInt y.toInt := by
  unfold IntOp.minsi
  simp only [BitVec.slt, decide_eq_true_eq]
  split <;> omega

theorem idx_eq (i : S16384.Idx) : (Shape.Idx.ofFin (i 0) : S16384.Idx) = i := by
  funext a; obtain rfl := Fin.eq_zero a; rfl

theorem count_eq (x : S17.Idx → BitVec 32) (i : S16384.Idx) : (val_main_v7 (F := F) x i).toNat = (below x (i 0).val).card := by
  have hi : (i 0).val < 16384 := (i 0).isLt
  unfold val_main_v7 val_main_v6 val_main_c
  rw [toNat_reduce_count_cols (by decide)]
  congr 1
  ext q
  unfold below
  simp only [Finset.mem_filter, Finset.mem_univ, true_and]
  rw [val_main_v5_apply, val_main_v3_apply, val_main_v1_apply, val_main_v4_apply, val_main_v2_apply, val_main_v0_apply]
  rw [show (1#1 : BitVec 1) = 1 from rfl, cmpi_one]
  simp only [BitVec.sle, decide_eq_true_eq]
  rw [show (BitVec.ofNat 32 ((idx_main_v2 (idx_main_v4 (ij (i 0) q))) 0).val).toInt = ((i 0).val : ℤ) from toInt_ofNat_small (by show (i 0).val < _; omega)]
  rw [show idx_main_v1 (idx_main_v3 (ij (i 0) q)) = (Shape.Idx.ofFin q : S17.Idx) from by funext a; obtain rfl := Fin.eq_zero a; rfl]

/-- The clipped segment number. -/
theorem seg_eq {x : S17.Idx → BitVec 32} (hx : Sorted x) (i : S16384.Idx) :
    val_main_v15 (F := F) x i = BitVec.ofNat 32 (seg x (i 0).val).val := by
  have hc := count_eq (F := F) x i
  have hC : 0 < (below x (i 0).val).card := (mem_below hx (i 0).val 0).mp (by rw [hx.1]; omega)
  have hC' : (below x (i 0).val).card ≤ 17 := by simpa using Finset.card_le_univ (below x (i 0).val)
  have h9 : val_main_v9 (F := F) x i = BitVec.ofNat 32 ((below x (i 0).val).card - 1) := by
    rw [val_main_v9_apply, val_main_v8_apply, val_main_c_0_apply, ← hc]
    show val_main_v7 (F := F) x i - 1#32 = _
    apply BitVec.eq_of_toNat_eq
    simp only [BitVec.toNat_sub, BitVec.toNat_ofNat]; omega
  have h10 : val_main_v10 (F := F) x i = BitVec.ofNat 32 (seg x (i 0).val).val := by
    apply BitVec.eq_of_toInt_eq
    rw [val_main_v10_apply, toInt_minsi, val_main_call0_v2_apply, toInt_maxsi, h9, toInt_ofNat_small (by omega), toInt_ofNat_small (by omega),
      val_main_call0_v4_apply, val_main_call0_v3_apply, val_main_c_2_apply, val_main_call0_v1_apply, val_main_call0_v0_apply, val_main_c_1_apply,
      show (15#32).toInt = 15 from rfl, show (0#32).toInt = 0 from rfl]
    show _ = ((min ((below x (i 0).val).card - 1) 15 : ℕ) : ℤ)
    omega
  rw [val_main_v15_apply, val_main_v12_apply, val_main_v11_apply, val_main_c_3_apply, h10]
  have : ¬ IntOp.cmpi .slt (BitVec.ofNat 32 (seg x (i 0).val).val) 0#32 = 1 := by
    rw [cmpi_one]; simp only [BitVec.slt, decide_eq_true_eq]
    rw [toInt_ofNat_small (by omega)]; simp
  unfold Scalar.select
  rw [if_neg this]

/-- How far a position is past its segment's start. -/
theorem place_eq {x : S17.Idx → BitVec 32} (hx : Sorted x) (i : S16384.Idx) :
    val_main_v18 (F := F) x i = BitVec.ofNat 32 ((i 0).val - lastStart (starts x) ((i 0).val + 1)) := by
  have hi : (i 0).val < 16384 := (i 0).isLt
  have hle := lastStart_succ_le (starts x) (i 0).val
  have h17 : val_main_v17 (F := F) x i = x (Shape.Idx.ofFin (seg x (i 0).val)) := by
    unfold val_main_v17
    have := gather_take gather_S17_S16384x1_S16384_n_0_n_n_0_1_1 rfl rfl rfl rfl x (val_main_v16 (F := F) x) (i 0) (by decide)
    rw [idx_eq] at this
    refine this.trans (congrArg (fun q => x (Shape.Idx.ofFin q)) (Fin.ext ?_))
    show min (val_main_v16 (F := F) x (ixP (i 0))).toInt.toNat (17 - 1) = _
    rw [val_main_v16_apply, show idx_main_v16 (ixP (i 0)) = i from by funext a; obtain rfl := Fin.eq_zero a; rfl, seg_eq hx,
      toInt_ofNat_small (by omega)]
    have : (seg x (i 0).val).val = min ((below x (i 0).val).card - 1) 15 := rfl
    omega
  have hw : val_main_v17 (F := F) x i = BitVec.ofNat 32 (lastStart (starts x) ((i 0).val + 1)) := by
    rw [h17]; apply BitVec.eq_of_toInt_eq
    rw [seg_start hx, toInt_ofNat_small (by omega)]
  rw [val_main_v18_apply, val_main_v0_apply, hw]
  show BitVec.ofNat 32 (i 0).val - _ = _
  apply BitVec.eq_of_toNat_eq
  simp only [BitVec.toNat_sub, BitVec.toNat_ofNat]; omega

/-- The reference's weight of a position. -/
theorem weight_eq {x : S17.Idx → BitVec 32} (hx : Sorted x) (w : S16384.Idx → F .f32) (i : S16384.Idx) :
    val_main_v19 (F := F) x w i
      = w (Shape.Idx.ofFin ⟨(i 0).val - lastStart (starts x) ((i 0).val + 1), lt_of_le_of_lt (Nat.sub_le _ _) (i 0).isLt⟩) := by
  have h5 : ∀ y : S16384x1.Idx, val_main_call1_v5 (F := F) x y = BitVec.ofNat 32 ((y 0).val - lastStart (starts x) ((y 0).val + 1)) := by
    intro y
    rw [val_main_call1_v5_apply, val_main_call1_v4_apply, val_main_call1_v1_apply, place_eq hx, val_main_call1_v0_apply, val_main_call1_c_apply]
    have hy : (y 0).val < 16384 := (y 0).isLt
    have : ¬ IntOp.cmpi .slt (BitVec.ofNat 32 ((idx_main_call1_v5 y 0).val - lastStart (starts x) ((idx_main_call1_v5 y 0).val + 1))) 0#32 = 1 := by
      rw [cmpi_one]; simp only [BitVec.slt, decide_eq_true_eq]
      rw [toInt_ofNat_small (by show (y 0).val - _ < _; omega)]; simp
    unfold Scalar.select
    rw [if_neg this]
  have h12 : val_main_call1_v12 (F := F) x i = 1#1 := by
    unfold val_main_call1_v12
    refine Host.reduce_andi_one _ _ _ _ _ rfl fun y => ?_
    have hy : (y 0).val < 16384 := (y 0).isLt
    have ha : IntOp.cmpi .sge (val_main_call1_v5 (F := F) x y) (val_main_call1_v6 (F := F) y) = 1 := by
      rw [h5, val_main_call1_v6_apply, val_main_call1_c_2_apply, cmpi_one]
      simp only [BitVec.sle, decide_eq_true_eq]
      rw [toInt_ofNat_small (n := (y 0).val - _) (by omega), show (0#32).toInt = 0 from rfl]; omega
    have hb : IntOp.cmpi .sle (val_main_call1_v5 (F := F) x y) (val_main_call1_v9 (F := F) y) = 1 := by
      rw [h5, val_main_call1_v9_apply, val_main_call1_v8_apply, val_main_call1_c_1_apply, cmpi_one]
      simp only [BitVec.sle, decide_eq_true_eq]
      rw [toInt_ofNat_small (by omega), show (16383#32).toInt = 16383 from rfl]; omega
    rw [val_main_call1_v11_apply, val_main_call1_v7_apply, val_main_call1_v10_apply, ha, hb]; rfl
  rw [val_main_v19_apply, h12]
  show val_main_call1_v13 (F := F) x w i = _
  unfold val_main_call1_v13
  have := gather_take gather_S16384_S16384x1_S16384_n_0_n_n_0_1_1 rfl rfl rfl rfl w (val_main_call1_v5 (F := F) x) (i 0) (by decide)
  rw [idx_eq] at this
  refine this.trans (congrArg (fun q => w (Shape.Idx.ofFin q)) (Fin.ext ?_))
  show min (val_main_call1_v5 (F := F) x (ixP (i 0))).toInt.toNat (16384 - 1) = _
  have hi : (i 0).val < 16384 := (i 0).isLt
  rw [h5, toInt_ofNat_small (by show (i 0).val - _ < _; omega)]
  show min ((((i 0).val - lastStart (starts x) ((i 0).val + 1) : ℕ) : ℤ)).toNat (16384 - 1) = (i 0).val - lastStart (starts x) ((i 0).val + 1)
  omega

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel keeps its arguments and ends quiet, at either reading of its floats. -/
theorem frame_kernel : Cert.quiescent_Kernel (hKernel := Cert.Kernel.Gen.facts) := fun m ρ _ =>
  (θ_run Cert.KernelIdeal.defs _ _).mono (fun _ h => ⟨fun d => ⟨(h.1 d).1, (h.1 d).2.1, (h.1 d).2.2.1⟩, h.2⟩) (Body.run_main (F := Bits) m ρ)

theorem frame_kernelIdeal : Cert.quiescent_KernelIdeal (hKernelIdeal := Cert.KernelIdeal.Gen.facts) := fun m ρ _ =>
  (θ_run Cert.KernelIdeal.defs _ _).mono (fun _ h => ⟨fun d => ⟨(h.1 d).1, (h.1 d).2.1, (h.1 d).2.2.1⟩, h.2⟩) (Body.run_main (F := Ideal) m ρ)

/-- The reference keeps its arguments; it has no semaphore. -/
theorem frame_reference : Cert.quiescent_ReferenceIdeal (hReferenceIdeal := Cert.ReferenceIdeal.Gen.facts) := fun m ρ _ =>
  (θ_run Cert.ReferenceIdeal.defs _ _).mono (fun r h => ⟨fun d => (h d).2.2.2, sem_eq_zero_of_no_sems rfl r.2⟩)
    (Cert.ReferenceIdeal.Value.run (F := Ideal) m ρ)

/-- Under the precondition, from equal arguments, the two end with the same three results. -/
theorem results_agree : Cert.algebraic_KernelIdeal_ReferenceIdeal_pre_valid_offsets (hKernelIdeal := Cert.KernelIdeal.Gen.facts)
    (hReferenceIdeal := Cert.ReferenceIdeal.Gen.facts) (hPre_valid_offsets := Value.pre_facts) := by
  intro m g m' g' hpre hag
  refine ⟨fun d => m (Body.vLoc d), fun d => m (Body.oLoc d), fun d => Body.weights m d, ?_, ?_⟩
  · exact (θ_run Cert.KernelIdeal.defs _ _).mono
      (fun _ h d => ⟨(h.1 d).2.2.2.1, (h.1 d).2.2.2.2.1, (h.1 d).2.2.2.2.2, (h.1 d).1, (h.1 d).2.1, (h.1 d).2.2.1⟩) (Body.run_main (F := Ideal) m g)
  · refine (θ_run Cert.ReferenceIdeal.defs _ _).mono (fun _ h d => ⟨(h d).1.trans (hag d).1, (h d).2.1.trans (hag d).2.1, ?_, (h d).2.2.2⟩)
      (Cert.ReferenceIdeal.Value.run (F := Ideal) m' g')
    refine (h d).2.2.1.trans ((Cert.ReferenceIdeal.Read.val_main_v19_eq m' d).trans ?_)
    rw [(hag d).2.1, (hag d).2.2]
    funext i
    refine (Value.weight_eq (Value.sorted_of_pre _ _ _ (hpre d)) _ i).trans ?_
    show _ = Body.weight m d (i 0).val
    unfold Body.weight
    rw [dif_pos (show (i 0).val < 16384 from (i 0).isLt)]
    rfl

theorem claim : Cert.Claim := ⟨Cert.Kernel.Gen.facts, Cert.KernelIdeal.Gen.facts, Cert.ReferenceIdeal.Gen.facts, Value.pre_facts,
  frame_kernel, frame_kernelIdeal, fun m ρ _ => frame_kernelIdeal m ρ trivial, frame_reference, fun m ρ _ => frame_reference m ρ trivial,
  trivial, results_agree⟩

end Cert.Proof

end
